-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) (main_arg1 : FVec F S8192x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S8192x64 : Shape := ⟨2, ![8192, 64]⟩
abbrev S4x8192x16 : Shape := ⟨3, ![4, 8192, 16]⟩
abbrev S128x1x64 : Shape := ⟨3, ![128, 1, 64]⟩
abbrev S64x64 : Shape := ⟨2, ![64, 64]⟩
abbrev S4x64x16 : Shape := ⟨3, ![4, 64, 16]⟩
abbrev S1x1x64 : Shape := ⟨3, ![1, 1, 64]⟩
abbrev S64 : Shape := ⟨1, ![64]⟩
abbrev S1x64 : Shape := ⟨2, ![1, 64]⟩
abbrev S64x16 : Shape := ⟨2, ![64, 16]⟩
abbrev S1x64x16 : Shape := ⟨3, ![1, 64, 16]⟩
abbrev S128x4x16 : Shape := ⟨3, ![128, 4, 16]⟩
abbrev S4x128x16 : Shape := ⟨3, ![4, 128, 16]⟩
abbrev S1x128x16 : Shape := ⟨3, ![1, 128, 16]⟩
abbrev S1x8192x16 : Shape := ⟨3, ![1, 8192, 16]⟩
abbrev S1x512x16 : Shape := ⟨3, ![1, 512, 16]⟩
abbrev S512x16 : Shape := ⟨2, ![512, 16]⟩
abbrev S128x16 : Shape := ⟨2, ![128, 16]⟩
abbrev S512x128 : Shape := ⟨2, ![512, 128]⟩
abbrev S512 : Shape := ⟨1, ![512]⟩
abbrev S512x1 : Shape := ⟨2, ![512, 1]⟩
abbrev S1x1024x16 : Shape := ⟨3, ![1, 1024, 16]⟩
abbrev S1024x16 : Shape := ⟨2, ![1024, 16]⟩
abbrev S512x1024 : Shape := ⟨2, ![512, 1024]⟩
abbrev S8192x4x16 : Shape := ⟨3, ![8192, 4, 16]⟩

abbrev nBuf : Space → Nat
  | .hbm => 8
  | .vmem => 16
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S4x8192x16, .f32⟩
  | .hbm, ⟨3, _⟩ => ⟨S128x1x64, .f32⟩
  | .hbm, ⟨4, _⟩ => ⟨S128x4x16, .f32⟩
  | .hbm, ⟨5, _⟩ => ⟨S4x128x16, .f32⟩
  | .hbm, ⟨6, _⟩ => ⟨S4x8192x16, .f32⟩
  | .hbm, ⟨7, _⟩ => ⟨S8192x4x16, .f32⟩
  | .local _ .vmem, ⟨0, _⟩ => ⟨S64x64, .f32⟩
  | .local _ .vmem, ⟨1, _⟩ => ⟨S64x64, .f32⟩
  | .local _ .vmem, ⟨2, _⟩ => ⟨S64x64, .f32⟩
  | .local _ .vmem, ⟨3, _⟩ => ⟨S64x64, .f32⟩
  | .local _ .vmem, ⟨4, _⟩ => ⟨S4x64x16, .f32⟩
  | .local _ .vmem, ⟨5, _⟩ => ⟨S4x64x16, .f32⟩
  | .local _ .vmem, ⟨6, _⟩ => ⟨S1x1x64, .f32⟩
  | .local _ .vmem, ⟨7, _⟩ => ⟨S1x1x64, .f32⟩
  | .local _ .vmem, ⟨8, _⟩ => ⟨S1x128x16, .f32⟩
  | .local _ .vmem, ⟨9, _⟩ => ⟨S1x128x16, .f32⟩
  | .local _ .vmem, ⟨10, _⟩ => ⟨S1x8192x16, .f32⟩
  | .local _ .vmem, ⟨11, _⟩ => ⟨S1x8192x16, .f32⟩
  | .local _ .vmem, ⟨12, _⟩ => ⟨S1x512x16, .f32⟩
  | .local _ .vmem, ⟨13, _⟩ => ⟨S1x512x16, .f32⟩
  | .local _ .vmem, ⟨14, _⟩ => ⟨S1x512x16, .f32⟩
  | .local _ .vmem, ⟨15, _⟩ => ⟨S1x512x16, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x64x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![16, 4], ![false, false]⟩

@[reducible] def k1_t1_loop : Scf.Loop 32 :=
  let c0_i32 : BitVec 32 := 0#32
  let c8_i32 : BitVec 32 := 8#32
  let v31 : BitVec 32 := Scalar.addi c0_i32 c8_i32
  let c1_i32 : BitVec 32 := 1#32
  ⟨c0_i32, v31, c1_i32⟩
def k1_off1 (k1_t1 : Fin k1_t1_loop.trips) : Fin 3 → Nat :=
  let c0_19 : Index := 0#32
  let c0_i32 : BitVec 32 := 0#32
  let c1_i32 : BitVec 32 := 1#32
  let arg6 : BitVec 32 := Scf.iv c0_i32 c1_i32 k1_t1
  let c1024_i32 : BitVec 32 := 1024#32
  let v38 : BitVec 32 := Scalar.muli arg6 c1024_i32
  let v39 : Index := Scalar.indexCast v38
  let c0_20 : Index := 0#32
  ![0, v39.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage1_0 : Fin 2 → Memref sig .tc .vmem S1x128x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x8192x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== KernelIdeal.lean ====
variable {F : FTy → Type} [FloatOps F] [Named F]
def κ : String → Option EReal := fun
  | "mask" => some ⊥
  | _ => none
-- ==== ReferenceIdeal.lean ====
abbrev S8192x64 : Shape := ⟨2, ![8192, 64]⟩
abbrev S128x64x64 : Shape := ⟨3, ![128, 64, 64]⟩
abbrev S_ : Shape := ⟨0, ![]⟩
abbrev S128x64 : Shape := ⟨2, ![128, 64]⟩
abbrev S128x1x64 : Shape := ⟨3, ![128, 1, 64]⟩
abbrev S128x64x4x16 : Shape := ⟨4, ![128, 64, 4, 16]⟩
abbrev S4x128x64x16 : Shape := ⟨4, ![4, 128, 64, 16]⟩
abbrev S4x8192x16 : Shape := ⟨3, ![4, 8192, 16]⟩
abbrev S4x128x16 : Shape := ⟨3, ![4, 128, 16]⟩
abbrev S4x16x128 : Shape := ⟨3, ![4, 16, 128]⟩
abbrev S4x8192x128 : Shape := ⟨3, ![4, 8192, 128]⟩
abbrev S4x8192 : Shape := ⟨2, ![4, 8192]⟩
abbrev S4x8192x1 : Shape := ⟨3, ![4, 8192, 1]⟩
abbrev S4x8192x2 : Shape := ⟨3, ![4, 8192, 2]⟩
abbrev S4 : Shape := ⟨1, ![4]⟩
abbrev S4x1x1 : Shape := ⟨3, ![4, 1, 1]⟩
abbrev S4x8192x2x1 : Shape := ⟨4, ![4, 8192, 2, 1]⟩
abbrev S4x8192x2x2 : Shape := ⟨4, ![4, 8192, 2, 2]⟩
abbrev S4x8192x2x64x16 : Shape := ⟨5, ![4, 8192, 2, 64, 16]⟩
abbrev S8192x4x16 : Shape := ⟨3, ![8192, 4, 16]⟩
abbrev S8192x4x1x16 : Shape := ⟨4, ![8192, 4, 1, 16]⟩
abbrev S8192x4x2x64x16 : Shape := ⟨5, ![8192, 4, 2, 64, 16]⟩
abbrev S8192x4x128x16 : Shape := ⟨4, ![8192, 4, 128, 16]⟩
abbrev S8192x4x1x128 : Shape := ⟨4, ![8192, 4, 1, 128]⟩
abbrev S8192x4x1 : Shape := ⟨3, ![8192, 4, 1]⟩
abbrev S8192x4x1x1 : Shape := ⟨4, ![8192, 4, 1, 1]⟩

abbrev nBuf : Space → Nat
  | .hbm => 109
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S128x64x64, .f32⟩
  | .hbm, ⟨3, _⟩ => ⟨S_, .f32⟩
  | .hbm, ⟨4, _⟩ => ⟨S128x64, .f32⟩
  | .hbm, ⟨5, _⟩ => ⟨S128x1x64, .f32⟩
  | .hbm, ⟨6, _⟩ => ⟨S_, .f32⟩
  | .hbm, ⟨7, _⟩ => ⟨S128x1x64, .f32⟩
  | .hbm, ⟨8, _⟩ => ⟨S128x1x64, .f32⟩
  | .hbm, ⟨9, _⟩ => ⟨S128x64x64, .f32⟩
  | .hbm, ⟨10, _⟩ => ⟨S128x64x64, .f32⟩
  | .hbm, ⟨11, _⟩ => ⟨S8192x64, .f32⟩
  | .hbm, ⟨12, _⟩ => ⟨S8192x64, .f32⟩
  | .hbm, ⟨13, _⟩ => ⟨S128x64x4x16, .f32⟩
  | .hbm, ⟨14, _⟩ => ⟨S4x128x64x16, .f32⟩
  | .hbm, ⟨15, _⟩ => ⟨S4x8192x16, .f32⟩
  | .hbm, ⟨16, _⟩ => ⟨S_, .f32⟩
  | .hbm, ⟨17, _⟩ => ⟨S4x128x16, .f32⟩
  | .hbm, ⟨18, _⟩ => ⟨S_, .f32⟩
  | .hbm, ⟨19, _⟩ => ⟨S4x128x16, .f32⟩
  | .hbm, ⟨20, _⟩ => ⟨S4x128x16, .f32⟩
  | .hbm, ⟨21, _⟩ => ⟨S4x16x128, .f32⟩
  | .hbm, ⟨22, _⟩ => ⟨S4x8192x128, .f32⟩
  | .hbm, ⟨23, _⟩ => ⟨S_, .f32⟩
  | .hbm, ⟨24, _⟩ => ⟨S4x8192x128, .f32⟩
  | .hbm, ⟨25, _⟩ => ⟨S4x8192x128, .f32⟩
  | .hbm, ⟨26, _⟩ => ⟨S_, .f32⟩
  | .hbm, ⟨27, _⟩ => ⟨S4x8192, .f32⟩
  | .hbm, ⟨28, _⟩ => ⟨S_, .f32⟩
  | .hbm, ⟨29, _⟩ => ⟨S4x8192, .f32⟩
  | .hbm, ⟨30, _⟩ => ⟨S4x8192, .f32⟩
  | .hbm, ⟨31, _⟩ => ⟨S4x8192x1, .f32⟩
  | .hbm, ⟨32, _⟩ => ⟨S4x8192x128, .f32⟩
  | .hbm, ⟨33, _⟩ => ⟨S4x8192x128, .f32⟩
  | .hbm, ⟨34, _⟩ => ⟨S4x8192x128, .f32⟩
  | .hbm, ⟨35, _⟩ => ⟨S_, .f32⟩
  | .hbm, ⟨36, _⟩ => ⟨S4x8192, .f32⟩
  | .hbm, ⟨37, _⟩ => ⟨S4x8192x1, .f32⟩
  | .hbm, ⟨38, _⟩ => ⟨S4x8192x128, .f32⟩
  | .hbm, ⟨39, _⟩ => ⟨S4x8192x128, .f32⟩
  | .hbm, ⟨40, _⟩ => ⟨S4x8192x2, .f32⟩
  | .hbm, ⟨41, _⟩ => ⟨S4x8192x2, .i32⟩
  | .hbm, ⟨42, _⟩ => ⟨S4, .i32⟩
  | .hbm, ⟨43, _⟩ => ⟨S4x1x1, .i32⟩
  | .hbm, ⟨44, _⟩ => ⟨S_, .i32⟩
  | .hbm, ⟨45, _⟩ => ⟨S4x1x1, .i32⟩
  | .hbm, ⟨46, _⟩ => ⟨S4x1x1, .i1⟩
  | .hbm, ⟨47, _⟩ => ⟨S_, .i32⟩
  | .hbm, ⟨48, _⟩ => ⟨S4x1x1, .i32⟩
  | .hbm, ⟨49, _⟩ => ⟨S4x1x1, .i32⟩
  | .hbm, ⟨50, _⟩ => ⟨S4x1x1, .i32⟩
  | .hbm, ⟨51, _⟩ => ⟨S_, .i32⟩
  | .hbm, ⟨52, _⟩ => ⟨S4x8192x2, .i32⟩
  | .hbm, ⟨53, _⟩ => ⟨S4x8192x2, .i1⟩
  | .hbm, ⟨54, _⟩ => ⟨S_, .i32⟩
  | .hbm, ⟨55, _⟩ => ⟨S4x8192x2, .i32⟩
  | .hbm, ⟨56, _⟩ => ⟨S4x8192x2, .i32⟩
  | .hbm, ⟨57, _⟩ => ⟨S4x8192x2, .i32⟩
  | .hbm, ⟨58, _⟩ => ⟨S4x8192x2, .i32⟩
  | .hbm, ⟨59, _⟩ => ⟨S4x8192x2x1, .i32⟩
  | .hbm, ⟨60, _⟩ => ⟨S4x8192x2x1, .i32⟩
  | .hbm, ⟨61, _⟩ => ⟨S4x8192x2x2, .i32⟩
  | .hbm, ⟨62, _⟩ => ⟨S4x8192x2x64x16, .f32⟩
  | .hbm, ⟨63, _⟩ => ⟨S_, .i32⟩
  | .hbm, ⟨64, _⟩ => ⟨S4x1x1, .i32⟩
  | .hbm, ⟨65, _⟩ => ⟨S4x1x1, .i1⟩
  | .hbm, ⟨66, _⟩ => ⟨S_, .i32⟩
  | .hbm, ⟨67, _⟩ => ⟨S4x1x1, .i32⟩
  | .hbm, ⟨68, _⟩ => ⟨S4x1x1, .i32⟩
  | .hbm, ⟨69, _⟩ => ⟨S4x1x1, .i32⟩
  | .hbm, ⟨70, _⟩ => ⟨S_, .i32⟩
  | .hbm, ⟨71, _⟩ => ⟨S4x8192x2, .i32⟩
  | .hbm, ⟨72, _⟩ => ⟨S4x8192x2, .i1⟩
  | .hbm, ⟨73, _⟩ => ⟨S_, .i32⟩
  | .hbm, ⟨74, _⟩ => ⟨S4x8192x2, .i32⟩
  | .hbm, ⟨75, _⟩ => ⟨S4x8192x2, .i32⟩
  | .hbm, ⟨76, _⟩ => ⟨S4x8192x2, .i32⟩
  | .hbm, ⟨77, _⟩ => ⟨S4x8192x2, .i32⟩
  | .hbm, ⟨78, _⟩ => ⟨S4x8192x2x1, .i32⟩
  | .hbm, ⟨79, _⟩ => ⟨S4x8192x2x1, .i32⟩
  | .hbm, ⟨80, _⟩ => ⟨S4x8192x2x2, .i32⟩
  | .hbm, ⟨81, _⟩ => ⟨S4x8192x2x64x16, .f32⟩
  | .hbm, ⟨82, _⟩ => ⟨S8192x4x16, .f32⟩
  | .hbm, ⟨83, _⟩ => ⟨S8192x4x1x16, .f32⟩
  | .hbm, ⟨84, _⟩ => ⟨S8192x4x2x64x16, .f32⟩
  | .hbm, ⟨85, _⟩ => ⟨S8192x4x128x16, .f32⟩
  | .hbm, ⟨86, _⟩ => ⟨S8192x4x2x64x16, .f32⟩
  | .hbm, ⟨87, _⟩ => ⟨S8192x4x128x16, .f32⟩
  | .hbm, ⟨88, _⟩ => ⟨S8192x4x1x128, .f32⟩
  | .hbm, ⟨89, _⟩ => ⟨S_, .f32⟩
  | .hbm, ⟨90, _⟩ => ⟨S_, .f32⟩
  | .hbm, ⟨91, _⟩ => ⟨S8192x4x1x128, .f32⟩
  | .hbm, ⟨92, _⟩ => ⟨S8192x4x1x128, .f32⟩
  | .hbm, ⟨93, _⟩ => ⟨S_, .f32⟩
  | .hbm, ⟨94, _⟩ => ⟨S8192x4x1, .f32⟩
  | .hbm, ⟨95, _⟩ => ⟨S_, .f32⟩
  | .hbm, ⟨96, _⟩ => ⟨S8192x4x1, .f32⟩
  | .hbm, ⟨97, _⟩ => ⟨S8192x4x1, .f32⟩
  | .hbm, ⟨98, _⟩ => ⟨S8192x4x1x1, .f32⟩
  | .hbm, ⟨99, _⟩ => ⟨S8192x4x1x128, .f32⟩
  | .hbm, ⟨100, _⟩ => ⟨S8192x4x1x128, .f32⟩
  | .hbm, ⟨101, _⟩ => ⟨S8192x4x1x128, .f32⟩
  | .hbm, ⟨102, _⟩ => ⟨S_, .f32⟩
  | .hbm, ⟨103, _⟩ => ⟨S8192x4x1, .f32⟩
  | .hbm, ⟨104, _⟩ => ⟨S8192x4x1x1, .f32⟩
  | .hbm, ⟨105, _⟩ => ⟨S8192x4x1x128, .f32⟩
  | .hbm, ⟨106, _⟩ => ⟨S8192x4x1x128, .f32⟩
  | .hbm, ⟨107, _⟩ => ⟨S8192x4x1x16, .f32⟩
  | .hbm, ⟨108, _⟩ => ⟨S8192x4x16, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_6 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_values : Ref sig .tc := ⟨.hbm, 40, rfl⟩
abbrev main_indices : Ref sig .tc := ⟨.hbm, 41, rfl⟩
abbrev main_v30 : Ref sig .tc := ⟨.hbm, 42, rfl⟩
abbrev main_v31 : Ref sig .tc := ⟨.hbm, 43, rfl⟩
abbrev main_c : Ref sig .tc := ⟨.hbm, 44, rfl⟩
abbrev main_v32 : Ref sig .tc := ⟨.hbm, 45, rfl⟩
abbrev main_v33 : Ref sig .tc := ⟨.hbm, 46, rfl⟩
abbrev main_c_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_8 : Ref sig .tc := ⟨.hbm, 51, rfl⟩
abbrev main_v37 : Ref sig .tc := ⟨.hbm, 52, rfl⟩
abbrev main_v38 : Ref sig .tc := ⟨.hbm, 53, rfl⟩
abbrev main_c_9 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_10 : Ref sig .tc := ⟨.hbm, 63, rfl⟩
abbrev main_v47 : Ref sig .tc := ⟨.hbm, 64, rfl⟩
abbrev main_v48 : Ref sig .tc := ⟨.hbm, 65, rfl⟩
abbrev main_c_11 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_12 : Ref sig .tc := ⟨.hbm, 70, rfl⟩
abbrev main_v52 : Ref sig .tc := ⟨.hbm, 71, rfl⟩
abbrev main_v53 : Ref sig .tc := ⟨.hbm, 72, rfl⟩
abbrev main_c_13 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_14 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_15 : Ref sig .tc := ⟨.hbm, 93, rfl⟩
abbrev main_v72 : Ref sig .tc := ⟨.hbm, 94, rfl⟩
abbrev main_cst_16 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_17 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩

abbrev nD : Nat := 1
abbrev τ : Topo := Topo.v7x

variable {F : FTy → Type} [FloatOps F]
-- ==== Proof.KernelRun.lean ====
/- The run of the kernel program, result included: the launch of its four pieces (a grid, host lines, a grid, host
   lines), with the last contents of the result's buffer read out next to those of the two arguments. -/
module

public import proofs.«01_k».proof.Proof.Gen.KernelIdeal.Frame

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- Every run of the program ends, with the result's buffer at the contents the four pieces leave there and the two
    arguments as they were. -/
theorem run_result : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨h c _ (mem_uc main_v4 (by decide)),
       (h c _ (mem_uc main_arg0 (by decide))).trans (W4_main_arg0 m ρ c),
       (h c _ (mem_uc main_arg1 (by decide))).trans (W4_main_arg1 m ρ c)⟩)

end Cert.KernelIdeal.Whole
-- ==== Proof.Spec.lean ====
/- The mathematics of the problem over the real numbers: the embedded points, the logits of a query against the ball means,
   the two best balls, and the attention over the keys of these two balls. -/
module

public import Mathlib.Analysis.SpecialFunctions.Exp
public import Mathlib.Data.EReal.Inv
public import Mathlib.Algebra.BigOperators.Fin
public import Mathlib.Algebra.Order.BigOperators.Group.Finset

@[expose] public section

noncomputable section

namespace Cert.Ball

open scoped BigOperators

/-- The `i`-th point of ball `b`. -/
def pt (b : Fin 128) (i : Fin 64) : Fin 8192 := ⟨64 * b.val + i.val, by omega⟩

/-- The ball that a point lies in. -/
def ball (j : Fin 8192) : Fin 128 := ⟨j.val / 64, by omega⟩

/-- A point's place within its ball. -/
def lane (j : Fin 8192) : Fin 64 := ⟨j.val % 64, Nat.mod_lt _ (by omega)⟩

theorem ball_pt (b : Fin 128) (i : Fin 64) : ball (pt b i) = b := by
  apply Fin.ext; simp only [ball, pt]; omega

theorem lane_pt (b : Fin 128) (i : Fin 64) : lane (pt b i) = i := by
  apply Fin.ext; simp only [lane, pt]; omega

theorem pt_ball_lane (j : Fin 8192) : pt (ball j) (lane j) = j := by
  apply Fin.ext; simp only [ball, pt, lane]; omega

/-- The embedded point: the input plus its position relative to the mean position of its ball. -/
def embed (X P : Fin 8192 → Fin 64 → ℝ) (n : Fin 8192) (d : Fin 64) : ℝ :=
  X n d + (P n d - (∑ i : Fin 64, P (pt (ball n) i) d) / 64)

/-- Column `e` of head `h`. -/
def col (h : Fin 4) (e : Fin 16) : Fin 64 := ⟨16 * h.val + e.val, by omega⟩

/-- The points of head `h`. -/
def headOf (Z : Fin 8192 → Fin 64 → ℝ) (h : Fin 4) (n : Fin 8192) (e : Fin 16) : ℝ := Z n (col h e)

variable (A : Fin 8192 → Fin 16 → ℝ)

/-- The mean of ball `b`. -/
def mean (b : Fin 128) (e : Fin 16) : ℝ := (∑ i : Fin 64, A (pt b i) e) / 64

/-- The logit of query `n` against ball `b`. -/
def logit (n : Fin 8192) (b : Fin 128) : ℝ := (∑ e : Fin 16, A n e * mean A b e) * (1 / 8)

/-- The score of query `n` against key `j`. -/
def score (n j : Fin 8192) : ℝ := (∑ e : Fin 16, A n e * A j e) * (1 / 4)

/-- `i₁` is the first place of the greatest value of `f`, and `i₂` the first place of the greatest value off `i₁`. -/
structure IsTop2 (f : Fin 128 → ℝ) (i₁ i₂ : Fin 128) : Prop where
  le₁ : ∀ b, f b ≤ f i₁
  lt₁ : ∀ b, b < i₁ → f b < f i₁
  ne : i₂ ≠ i₁
  le₂ : ∀ b, b ≠ i₁ → f b ≤ f i₂
  lt₂ : ∀ b, b ≠ i₁ → b < i₂ → f b < f i₂

/-- The two best balls are determined. -/
theorem IsTop2.unique {f : Fin 128 → ℝ} {i₁ i₂ j₁ j₂ : Fin 128} (hi : IsTop2 f i₁ i₂) (hj : IsTop2 f j₁ j₂) :
    i₁ = j₁ ∧ i₂ = j₂ := by
  have h₁ : i₁ = j₁ := by
    rcases lt_trichotomy i₁ j₁ with h | h | h
    · exact absurd (hj.lt₁ _ h) (not_lt.2 (hi.le₁ _))
    · exact h
    · exact absurd (hi.lt₁ _ h) (not_lt.2 (hj.le₁ _))
  subst h₁
  refine ⟨rfl, ?_⟩
  rcases lt_trichotomy i₂ j₂ with h | h | h
  · exact absurd (hj.lt₂ _ hi.ne h) (not_lt.2 (hi.le₂ _ hj.ne))
  · exact h
  · exact absurd (hi.lt₂ _ hj.ne h) (not_lt.2 (hj.le₂ _ hi.ne))

/-- The keys that lie in one of two balls. -/
def keys (i₁ i₂ : Fin 128) : Finset (Fin 8192) := Finset.univ.filter fun j => ball j = i₁ ∨ ball j = i₂

theorem mem_keys {i₁ i₂ : Fin 128} {j : Fin 8192} : j ∈ keys i₁ i₂ ↔ ball j = i₁ ∨ ball j = i₂ := by
  simp [keys]

theorem keys_nonempty (i₁ i₂ : Fin 128) : (keys i₁ i₂).Nonempty :=
  ⟨pt i₁ 0, mem_keys.2 (Or.inl (ball_pt _ _))⟩

/-- The attention of query `n` over the keys of balls `i₁` and `i₂`. -/
def attend (n : Fin 8192) (i₁ i₂ : Fin 128) (e : Fin 16) : ℝ :=
  (∑ j ∈ keys i₁ i₂, Real.exp (score A n j) * A j e) / ∑ j ∈ keys i₁ i₂, Real.exp (score A n j)

/-- Taking a constant off every score changes no attention weight. -/
theorem attend_shift (n : Fin 8192) (i₁ i₂ : Fin 128) (e : Fin 16) (M : ℝ) :
    (∑ j ∈ keys i₁ i₂, Real.exp (score A n j - M) * A j e) / ∑ j ∈ keys i₁ i₂, Real.exp (score A n j - M)
      = attend A n i₁ i₂ e := by
  have h1 : ∀ j, Real.exp (score A n j - M) = Real.exp (-M) * Real.exp (score A n j) := fun j => by
    rw [← Real.exp_add]; congr 1; ring
  simp only [h1, mul_assoc, ← Finset.mul_sum, attend]
  exact mul_div_mul_left _ _ (Real.exp_ne_zero _)

/-- The sum of the weights is positive. -/
theorem weights_pos (n : Fin 8192) (i₁ i₂ : Fin 128) (M : ℝ) :
    0 < ∑ j ∈ keys i₁ i₂, Real.exp (score A n j - M) :=
  Finset.sum_pos (fun _ _ => Real.exp_pos _) (keys_nonempty _ _)

/-- What the problem asks for at query `n`: some pair of balls is the pair of the two best, and the attention over their keys
    is `out`. -/
def Answer (n : Fin 8192) (out : Fin 16 → EReal) : Prop :=
  ∃ i₁ i₂, IsTop2 (logit A n) i₁ i₂ ∧ ∀ e, out e = ((attend A n i₁ i₂ e : ℝ) : EReal)

/-- There is one answer. -/
theorem Answer.unique {n : Fin 8192} {o o' : Fin 16 → EReal} (h : Answer A n o) (h' : Answer A n o') : o = o' := by
  obtain ⟨i₁, i₂, hi, ho⟩ := h
  obtain ⟨j₁, j₂, hj, ho'⟩ := h'
  obtain ⟨rfl, rfl⟩ := hi.unique hj
  funext e
  rw [ho, ho']

/-- The answer at query `n`. -/
def best (n : Fin 8192) : Fin 16 → EReal := Classical.epsilon (Answer A n)

/-- What answers is the answer. -/
theorem Answer.eq_best {n : Fin 8192} {o : Fin 16 → EReal} (h : Answer A n o) (e : Fin 16) : o e = best A n e :=
  congrFun (h.unique A (Classical.epsilon_spec (p := Answer A n) ⟨o, h⟩)) e

/-- A finite sum of reals, read as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.Ball

end
-- ==== Proof.Folds.lean ====
/- The greatest value of a family and the first place where it is attained, as two folds state them; and the ball of a key as
   a floor division of words. -/
module

public import proofs.«01_k».proof.Proof.Spec
public import Idealize.ShloMosaic.PureOps.Ideal
public import Idealize.ShloMosaic.Lib.Routing.Words
public import Idealize.ShloMosaic.Lib.WordCmp

@[expose] public section

noncomputable section

namespace Cert.Ball

open Idealize.ShloMosaic Idealize.ShloMosaic.WordCmp

/-- A quotient of a real by a nonzero real. -/
theorem div_coe (a b : ℝ) (hb : b ≠ 0) : Ideal.div (a : EReal) (b : EReal) = ((a / b : ℝ) : EReal) := by
  rw [Ideal.div, if_neg (by exact_mod_cast hb), EReal.coe_div, EReal.div_eq_inv_mul, mul_comm]

/-- A fold of the maximum that starts at minus infinity bounds every value, and is minus infinity or one of the values. -/
theorem foldMax_spec {ι : Type*} (s : Finset ι) (g : ι → EReal) :
    (∀ j ∈ s, g j ≤ s.fold max ⊥ g) ∧ (s.fold max ⊥ g = ⊥ ∨ ∃ j ∈ s, s.fold max ⊥ g = g j) := by
  classical
  induction s using Finset.induction_on with
  | empty => exact ⟨fun j hj => absurd hj (Finset.notMem_empty j), Or.inl rfl⟩
  | insert a s ha ih =>
    rw [Finset.fold_insert ha]
    refine ⟨fun j hj => ?_, ?_⟩
    · rcases Finset.mem_insert.1 hj with rfl | hj
      · exact le_max_left _ _
      · exact (ih.1 j hj).trans (le_max_right _ _)
    · rcases max_choice (g a) (s.fold max ⊥ g) with h | h
      · exact Or.inr ⟨a, Finset.mem_insert_self a s, h⟩
      · rw [h]
        exact ih.2.imp_right fun ⟨j, hj, e⟩ => ⟨j, Finset.mem_insert_of_mem hj, e⟩

/-- Over a type that has an element, the fold of the maximum is one of the values. -/
theorem foldMax_mem {ι : Type*} [Fintype ι] [Nonempty ι] (g : ι → EReal) :
    ∃ j, Finset.univ.fold max ⊥ g = g j := by
  obtain ⟨h1, h2 | ⟨j, _, h⟩⟩ := foldMax_spec Finset.univ g
  · obtain ⟨j⟩ := ‹Nonempty ι›
    exact ⟨j, h2.trans (le_bot_iff.1 (h2 ▸ h1 j (Finset.mem_univ j))).symm⟩
  · exact ⟨j, h⟩

/-- A fold of the signed minimum is below every word met, and is the start or one of the words. -/
theorem foldMin_spec {ι : Type*} (s : Finset ι) (g : ι → BitVec 32) (init : BitVec 32) :
    (∀ j ∈ s, (s.fold IntOp.minsi init g).toInt ≤ (g j).toInt)
      ∧ (s.fold IntOp.minsi init g = init ∨ ∃ j ∈ s, s.fold IntOp.minsi init g = g j) := by
  classical
  induction s using Finset.induction_on with
  | empty => exact ⟨fun j hj => absurd hj (Finset.notMem_empty j), Or.inl rfl⟩
  | insert a s ha ih =>
    rw [Finset.fold_insert ha]
    have key : ∀ x y : BitVec 32, (IntOp.minsi x y = x ∧ x.toInt ≤ y.toInt) ∨ (IntOp.minsi x y = y ∧ y.toInt ≤ x.toInt) :=
      fun x y => by
        unfold IntOp.minsi
        by_cases h : x.slt y
        · rw [if_pos h]; exact Or.inl ⟨rfl, (BitVec.slt_iff_toInt_lt.1 h).le⟩
        · rw [if_neg h]; exact Or.inr ⟨rfl, not_lt.1 fun h' => h (BitVec.slt_iff_toInt_lt.2 h')⟩
    rcases key (g a) (s.fold IntOp.minsi init g) with ⟨e, hle⟩ | ⟨e, hle⟩ <;> rw [e]
    · refine ⟨fun j hj => ?_, Or.inr ⟨a, Finset.mem_insert_self a s, rfl⟩⟩
      rcases Finset.mem_insert.1 hj with rfl | hj
      · exact le_rfl
      · exact hle.trans (ih.1 j hj)
    · refine ⟨fun j hj => ?_, ih.2.imp_right fun ⟨j, hj, e'⟩ => ⟨j, Finset.mem_insert_of_mem hj, e'⟩⟩
      rcases Finset.mem_insert.1 hj with rfl | hj
      · exact hle
      · exact ih.1 j hj

/-- The least of the places where `P` holds, as the fold of the signed minimum over the words of the places and `128` elsewhere. -/
theorem foldMin_first (P : Fin 128 → Prop) [DecidablePred P] (hP : ∃ i, P i) :
    ∃ i, Finset.univ.fold IntOp.minsi 2147483647#32 (fun x : Fin 128 => if P x then BitVec.ofNat 32 x.val else 128#32)
        = BitVec.ofNat 32 i.val ∧ P i ∧ ∀ b < i, ¬ P b := by
  obtain ⟨h1, h2⟩ := foldMin_spec Finset.univ (fun x : Fin 128 => if P x then BitVec.ofNat 32 x.val else 128#32) 2147483647#32
  have hw : ∀ x : Fin 128, (BitVec.ofNat 32 x.val).toInt = (x.val : Int) := fun x => toInt_ofNat_of_lt (by omega)
  obtain ⟨i, hi⟩ := hP
  have hle := h1 i (Finset.mem_univ i)
  simp only [if_pos hi, hw] at hle
  rcases h2 with h2 | ⟨j, -, h2⟩
  · rw [h2] at hle
    have : (2147483647#32).toInt = 2147483647 := by decide
    omega
  · by_cases hj : P j
    · simp only [if_pos hj] at h2
      refine ⟨j, h2, hj, fun b hb hPb => ?_⟩
      have := h1 b (Finset.mem_univ b)
      simp only [h2, if_pos hPb, hw] at this
      have : b.val < j.val := hb
      omega
    · simp only [if_neg hj] at h2
      rw [h2] at hle
      have : (128#32).toInt = 128 := by decide
      omega

/-- The first place of the greatest value. -/
theorem first_max (g : Fin 128 → EReal) :
    ∃ i, Finset.univ.fold IntOp.minsi 2147483647#32
        (fun x : Fin 128 => if Finset.univ.fold max ⊥ g ≤ g x then BitVec.ofNat 32 x.val else 128#32)
        = BitVec.ofNat 32 i.val ∧ (∀ b, g b ≤ g i) ∧ ∀ b < i, g b < g i := by
  have hb : ∀ j, g j ≤ Finset.univ.fold max ⊥ g := fun j => (foldMax_spec Finset.univ g).1 j (Finset.mem_univ j)
  obtain ⟨j, hj⟩ := foldMax_mem g
  obtain ⟨i, hi, hPi, hlt⟩ := foldMin_first (fun x => Finset.univ.fold max ⊥ g ≤ g x) ⟨j, hj.le⟩
  exact ⟨i, hi, fun b => (hb b).trans hPi, fun b hbi => (not_le.1 (hlt b hbi)).trans_le hPi⟩

/-- The first place of the greatest value, and the first place of the greatest value off that one, are the two best. -/
theorem isTop2_of (f : Fin 128 → ℝ) (i₁ i₂ : Fin 128) (h₁ : ∀ b, (f b : EReal) ≤ f i₁) (h₁' : ∀ b < i₁, (f b : EReal) < f i₁)
    (h₂ : ∀ b, (if b = i₁ then ⊥ else (f b : EReal)) ≤ if i₂ = i₁ then ⊥ else (f i₂ : EReal))
    (h₂' : ∀ b < i₂, (if b = i₁ then ⊥ else (f b : EReal)) < if i₂ = i₁ then ⊥ else (f i₂ : EReal)) : IsTop2 f i₁ i₂ := by
  have hne : i₂ ≠ i₁ := fun h => by
    obtain ⟨b, hb⟩ : ∃ b : Fin 128, b ≠ i₁ := exists_ne i₁
    have := h₂ b
    rw [if_neg hb, if_pos h] at this
    exact EReal.coe_ne_bot _ (le_bot_iff.1 this)
  refine ⟨fun b => EReal.coe_le_coe_iff.1 (h₁ b), fun b hb => EReal.coe_lt_coe_iff.1 (h₁' b hb), hne, fun b hb => ?_, fun b hb hlt => ?_⟩
  · have := h₂ b
    rw [if_neg hb, if_neg hne] at this
    exact EReal.coe_le_coe_iff.1 this
  · have := h₂' b hlt
    rw [if_neg hb, if_neg hne] at this
    exact EReal.coe_lt_coe_iff.1 this

/-- A floor division of words by `64`, spelt by quotient, signs and remainder. -/
def floorDiv (x : BitVec 32) : BitVec 32 :=
  Scalar.select
    (IntOp.andi
      (IntOp.cmpi .ne (IntOp.subi (BitVec.setWidth 32 (IntOp.cmpi .sgt x 0#32)) (BitVec.setWidth 32 (IntOp.cmpi .slt x 0#32))) 1#32)
      (IntOp.cmpi .ne (IntOp.remsi .vector x 64#32) 0#32))
    (IntOp.subi (IntOp.divsi .vector x 64#32) 1#32) (IntOp.divsi .vector x 64#32)

/-- On the word of a key the floor division gives the word of its ball. -/
theorem floorDiv_ofNat (j : Fin 8192) : floorDiv (BitVec.ofNat 32 j.val) = BitVec.ofNat 32 (ball j).val := by
  have hj := j.isLt
  have hd := Routing.divsi_word .vector (a := j.val) (b := 64) (by omega) (by omega) (by omega)
  have hr := Routing.remsi_word .vector (a := j.val) (b := 64) (by omega) (by omega) (by omega)
  unfold floorDiv
  rw [hd, hr]
  have hz : IntOp.andi
      (IntOp.cmpi .ne (IntOp.subi (BitVec.setWidth 32 (IntOp.cmpi .sgt (BitVec.ofNat 32 j.val) 0#32))
        (BitVec.setWidth 32 (IntOp.cmpi .slt (BitVec.ofNat 32 j.val) 0#32))) 1#32)
      (IntOp.cmpi .ne (BitVec.ofNat 32 (j.val % 64)) 0#32) = 0#1 := by
    rcases Nat.eq_zero_or_pos j.val with h | h
    · rw [h]; decide
    · have ht : (BitVec.ofNat 32 j.val).toInt = (j.val : Int) := toInt_ofNat_of_lt (by omega)
      have h1 : IntOp.cmpi .sgt (BitVec.ofNat 32 j.val) 0#32 = 1#1 := by
        rw [cmpi_sgt_eq, ht, show (0#32).toInt = 0 from rfl, decide_eq_true (by omega)]
        rfl
      have h2 : IntOp.cmpi .slt (BitVec.ofNat 32 j.val) 0#32 = 0#1 := by
        rw [cmpi_slt_eq, ht, show (0#32).toInt = 0 from rfl, decide_eq_false (by omega)]
        rfl
      rw [h1, h2]
      have h3 : IntOp.cmpi .ne (IntOp.subi (BitVec.setWidth 32 1#1) (BitVec.setWidth 32 0#1)) 1#32 = 0#1 := by decide
      rw [h3]
      exact BitVec.zero_and
  rw [hz]
  rfl

/-- Two words of balls are equal only when the balls are. -/
theorem ofNat_ball_eq_iff (b b' : Fin 128) : BitVec.ofNat 32 b.val = BitVec.ofNat 32 b'.val ↔ b = b' := by
  rw [ofNat_eq_ofNat_iff (by omega) (by omega), Fin.ext_iff]

end Cert.Ball

end
-- ==== Proof.Consts.lean ====
/- The constants that the two programs spell, as the extended reals that their patterns denote over the ideal numbers. -/
module

public import Idealize.ShloMosaic.PureOps.Ideal

@[expose] public section

noncomputable section

namespace Cert.Consts

open Idealize.ShloMosaic

/-- `64.0`, the number of points in a ball. -/
theorem ofBits_64 : Ideal.ofBits .f32 1115684864#32 = ((64 : ℝ) : EReal) := by
  simp [Ideal.ofBits, Ideal.ieee, -EReal.coe_mul]; norm_num

/-- `16.0`, the number of columns of a head. -/
theorem ofBits_16 : Ideal.ofBits .f32 1098907648#32 = ((16 : ℝ) : EReal) := by
  simp [Ideal.ofBits, Ideal.ieee, -EReal.coe_mul]; norm_num

/-- `0.25`, the scale of a score. -/
theorem ofBits_quarter : Ideal.ofBits .f32 1048576000#32 = ((1 / 4 : ℝ) : EReal) := by
  simp [Ideal.ofBits, Ideal.ieee, -EReal.coe_mul]; norm_num

/-- `0.125`, the scale of a logit. -/
theorem ofBits_eighth : Ideal.ofBits .f32 1040187392#32 = ((1 / 8 : ℝ) : EReal) := by
  simp [Ideal.ofBits, Ideal.ieee, -EReal.coe_mul]; norm_num

/-- Minus infinity, where a maximum starts. -/
theorem ofBits_bot : Ideal.ofBits .f32 4286578688#32 = ⊥ := by
  simp [Ideal.ofBits, Ideal.ieee]

/-- Plus infinity, the bound of the precondition. -/
theorem ofBits_top : Ideal.ofBits .f32 2139095040#32 = ⊤ := by
  simp [Ideal.ofBits, Ideal.ieee]

end Cert.Consts

end
-- ==== Proof.Block0.lean ====
/- What one block of the preparing kernel computes: the embedded points of one ball, head by head, and their mean. -/
module

public import proofs.«01_k».proof.Proof.Gen.KernelIdeal.Frame
public import proofs.«01_k».proof.Proof.Folds
public import proofs.«01_k».proof.Proof.Consts
public import Idealize.ShloMosaic.Lib.Pointwise
public import Idealize.ShloMosaic.Lib.Pipeline.ValueKit

@[expose] public section

set_option maxRecDepth 16384

noncomputable section

namespace Cert.KernelIdeal.Block

open Idealize.ShloMosaic Cert.KernelIdeal Cert.KernelIdeal.Gen Cert.Ball

variable (X P : Fin 8192 → Fin 64 → ℝ) (b : Fin 128) (x p : Vec Ideal S64x64 .f32)
  (hx : ∀ i d, x (ix2 i d) = (X (pt b i) d : EReal)) (hp : ∀ i d, p (ix2 i d) = (P (pt b i) d : EReal))

include hx hp

/-- The embedded points of the ball. -/
theorem pay1_embed (i d : Fin 64) : k0_pay1 x p (ix2 i d) = (embed X P (pt b i) d : EReal) := by
  pointwise [k0_pay1]
  simp only [hx, hp, Consts.ofBits_64, ← coe_sum, div_coe _ _ (show (64 : ℝ) ≠ 0 by norm_num), ← EReal.coe_add, ← EReal.coe_sub]
  congr 1
  rw [embed, ball_pt]
  ring

/-- The first head's columns. -/
theorem pay2_embed (i : Fin 64) (e : Fin 16) : k0_pay2 x p (ix3 0 i e) = (headOf (embed X P) 0 (pt b i) e : EReal) := by
  have h := pay1_embed X P b x p hx hp i (col 0 e)
  pointwise [k0_pay2]
  refine Eq.trans (congrArg (fun d => k0_pay1 x p (ix2 i d)) (Fin.ext ?_)) h
  simp only [col]; simp

/-- The second head's columns. -/
theorem pay3_embed (i : Fin 64) (e : Fin 16) : k0_pay3 x p (ix3 0 i e) = (headOf (embed X P) 1 (pt b i) e : EReal) := by
  have h := pay1_embed X P b x p hx hp i (col 1 e)
  pointwise [k0_pay3]
  refine Eq.trans (congrArg (fun d => k0_pay1 x p (ix2 i d)) (Fin.ext ?_)) h
  simp only [col]; simp

/-- The third head's columns. -/
theorem pay4_embed (i : Fin 64) (e : Fin 16) : k0_pay4 x p (ix3 0 i e) = (headOf (embed X P) 2 (pt b i) e : EReal) := by
  have h := pay1_embed X P b x p hx hp i (col 2 e)
  pointwise [k0_pay4]
  refine Eq.trans (congrArg (fun d => k0_pay1 x p (ix2 i d)) (Fin.ext ?_)) h
  simp only [col]; simp

/-- The fourth head's columns. -/
theorem pay5_embed (i : Fin 64) (e : Fin 16) : k0_pay5 x p (ix3 0 i e) = (headOf (embed X P) 3 (pt b i) e : EReal) := by
  have h := pay1_embed X P b x p hx hp i (col 3 e)
  pointwise [k0_pay5]
  refine Eq.trans (congrArg (fun d => k0_pay1 x p (ix2 i d)) (Fin.ext ?_)) h
  simp only [col]; simp

/-- The mean of the ball's embedded points. -/
theorem pay6_mean (d : Fin 64) :
    k0_pay6 x p (ix3 0 0 d) = (((∑ i : Fin 64, embed X P (pt b i) d) / 64 : ℝ) : EReal) := by
  have h1 := pay1_embed X P b x p hx hp
  pointwise [k0_pay6]
  simp only [h1, Consts.ofBits_64, ← coe_sum, div_coe _ _ (show (64 : ℝ) ≠ 0 by norm_num)]

omit hx hp in
/-- A block loaded whole is the block. -/
theorem ld_whole (z : Vec Ideal S64x64 .f32) : View.ld z r0_0 = z :=
  View.ld_unit_zero (funext fun a => by fin_cases a <;> rfl) _ z

/-- The points block that the preparing kernel stores. -/
theorem out0_2_embed (h : Fin 4) (i : Fin 64) (e : Fin 16) :
    out0_2 x p (ix3 h i e) = (headOf (embed X P) h (pt b i) e : EReal) := by
  have key : ∀ (k : Fin 4) (y : S1x64x16.Idx), h.val = k.val + (y 0).val → (y 0).val < 1 → i.val = (y 1).val → e.val = (y 2).val →
      h = k ∧ y = ix3 0 i e := fun k y h0 h1 h2 h3 => by
    refine ⟨Fin.ext (by omega), funext fun a => Fin.ext ?_⟩
    fin_cases a
    · show (y 0).val = 0; omega
    · exact h2.symm
    · exact h3.symm
  canon_tiles y hy
  · obtain ⟨rfl, rfl⟩ := key 3 y hy0 y0_lt hy1 hy2
    rw [ld_whole, ld_whole]; exact pay5_embed X P b x p hx hp i e
  · obtain ⟨rfl, rfl⟩ := key 2 y hy0 y0_lt hy1 hy2
    rw [ld_whole, ld_whole]; exact pay4_embed X P b x p hx hp i e
  · obtain ⟨rfl, rfl⟩ := key 1 y hy0 y0_lt hy1 hy2
    rw [ld_whole, ld_whole]; exact pay3_embed X P b x p hx hp i e
  · obtain ⟨rfl, rfl⟩ := key 0 y (by simpa using hy0) y0_lt hy1 hy2
    rw [ld_whole, ld_whole]; exact pay2_embed X P b x p hx hp i e

/-- The means block that the preparing kernel stores. -/
theorem out0_3_mean (d : Fin 64) :
    out0_3 x p (ix3 0 0 d) = (((∑ i : Fin 64, embed X P (pt b i) d) / 64 : ℝ) : EReal) := by
  rw [← pay6_mean X P b x p hx hp d]
  canon_tiles y hy
  have e' : y = ix3 0 0 d := funext fun a => Fin.ext (by
    fin_cases a
    · exact hy0.symm
    · exact hy1.symm
    · exact hy2.symm)
  rw [ld_whole, ld_whole, e']

end Cert.KernelIdeal.Block

end
-- ==== Proof.Arrays0.lean ====
/- What the preparing kernel's region leaves in its two arrays: every embedded point, head by head, and every ball's mean. -/
module

public import proofs.«01_k».proof.Proof.Block0

@[expose] public section

set_option maxRecDepth 16384

noncomputable section

namespace Cert.KernelIdeal.Block

open Idealize.ShloMosaic Idealize.ShloMosaic.TcCoe Idealize.ShloMosaic.Pipeline Cert.KernelIdeal Cert.KernelIdeal.Gen Cert.Ball

variable (V : (c : Dev nD) → (b : Ref sig .tc) → Buf (Elt Ideal) ((c : Thread nD τ).loc b)) (c : Dev nD)
  (X P : Fin 8192 → Fin 64 → ℝ)

/-- Where the windows' blocks lie: point `t` of the grid is ball `t`. -/
theorem index0 : ∀ t : Fin grid0.N, win0_0.index t 0 = t.val ∧ win0_0.index t 1 = 0 ∧ win0_1.index t 0 = t.val ∧ win0_1.index t 1 = 0
    ∧ win0_2.index t 0 = 0 ∧ win0_2.index t 1 = t.val ∧ win0_2.index t 2 = 0
    ∧ win0_3.index t 0 = t.val ∧ win0_3.index t 1 = 0 ∧ win0_3.index t 2 = 0 := by decide +kernel

/-- The points of a ball, as the region reads them. -/
theorem blk0_0 (t : Fin cfg0.N) (i d : Fin 64) : iblk0 V c 0 t (ix2 i d) = V c main_arg0 (ix2 (pt t i) d) := by
  obtain ⟨h0, h1, -⟩ := index0 t
  have hp : (pt t i).val = 64 * t.val + i.val := rfl
  unfold iblk0
  blk_simp
  blk_ext [h0, h1]

/-- The positions of a ball, as the region reads them. -/
theorem blk0_1 (t : Fin cfg0.N) (i d : Fin 64) : iblk0 V c 1 t (ix2 i d) = V c main_arg1 (ix2 (pt t i) d) := by
  obtain ⟨-, -, h0, h1, -⟩ := index0 t
  have hp : (pt t i).val = 64 * t.val + i.val := rfl
  unfold iblk0
  blk_simp
  blk_ext [h0, h1]

variable (hX : ∀ n d, V c main_arg0 (ix2 n d) = (X n d : EReal)) (hP : ∀ n d, V c main_arg1 (ix2 n d) = (P n d : EReal))

include hX hP

/-- The array of the embedded points. -/
theorem arr0_2 :
    (dat0 V c).arrAt 2 cfg0.N = fun y : S4x8192x16.Idx => (headOf (embed X P) (y 0) (y 1) (y 2) : EReal) := by
  refine (dat0 V c).arrAt_eq_of_covers 2 _ (by decide +kernel) fun t hf y => ?_
  obtain ⟨-, -, -, -, h0, h1, h2, -⟩ := index0 t
  blk_simp
  rw [after0_2]
  have e := out0_2_embed X P t (iblk0 V c 0 t) (iblk0 V c 1 t) (fun i d => (blk0_0 V c t i d).trans (hX _ _))
    (fun i d => (blk0_1 V c t i d).trans (hP _ _)) (y 0) (y 1) (y 2)
  refine (congrArg (out0_2 (iblk0 V c 0 t) (iblk0 V c 1 t)) (ValueIdx.eq_ix3 (n0 := 4) (n1 := 64) (n2 := 16) y)).trans (e.trans ?_)
  have e0 : (win0_2.blk t).view.emb y 0 = (y 0 : Fin 4) := Fin.ext (by blk_simp [h0])
  have e1 : (win0_2.blk t).view.emb y 1 = pt t (y 1) := Fin.ext (by blk_simp [h1]; show _ = 64 * t.val + (y 1).val; omega)
  have e2 : (win0_2.blk t).view.emb y 2 = (y 2 : Fin 16) := Fin.ext (by blk_simp [h2])
  rw [e0, e1, e2]

/-- The array of the balls' means. -/
theorem arr0_3 : (dat0 V c).arrAt 3 cfg0.N
    = fun y : S128x1x64.Idx => (((∑ i : Fin 64, embed X P (pt (y 0) i) (y 2)) / 64 : ℝ) : EReal) := by
  refine (dat0 V c).arrAt_eq_of_covers 3 _ (by decide +kernel) fun t hf y => ?_
  obtain ⟨-, -, -, -, -, -, -, h0, h1, h2⟩ := index0 t
  blk_simp
  rw [after0_3]
  have hy : y = ix3 (0 : Fin 1) (0 : Fin 1) (y 2 : Fin 64) := by blk_ext
  have e := out0_3_mean X P t (iblk0 V c 0 t) (iblk0 V c 1 t) (fun i d => (blk0_0 V c t i d).trans (hX _ _))
    (fun i d => (blk0_1 V c t i d).trans (hP _ _)) (y 2)
  refine (congrArg (out0_3 (iblk0 V c 0 t) (iblk0 V c 1 t)) hy).trans (e.trans ?_)
  have e0 : (win0_3.blk t).view.emb y 0 = t := Fin.ext (by blk_simp [h0])
  have e2 : (win0_3.blk t).view.emb y 2 = (y 2 : Fin 64) := Fin.ext (by blk_simp [h2])
  rw [e0, e2]

end Cert.KernelIdeal.Block

end
-- ==== Proof.Online.lean ====
/- One pass over the keys in chunks, with a running maximum, a running sum of weights and a running weighted sum of values:
   what is held after some of the keys, one step, and the quotient at the end. -/
module

public import proofs.«01_k».proof.Proof.Spec
public import Idealize.ShloMosaic.PureOps.Ideal

@[expose] public section

noncomputable section

namespace Cert.Ball

open Idealize.ShloMosaic
open scoped BigOperators

variable (A : Fin 8192 → Fin 16 → ℝ) (n : Fin 8192)

/-- What the three running values hold once the keys `T` have been taken: nothing yet, or, for some real `M`, the sums of the
    weights `exp (score − M)` and of the weighted values. -/
def Held (T : Finset (Fin 8192)) (m l : EReal) (o : Fin 16 → EReal) : Prop :=
  (T = ∅ ∧ m = ⊥ ∧ l = 0 ∧ ∀ e, o e = 0) ∨
  ∃ M : ℝ, T.Nonempty ∧ m = M ∧ l = ((∑ j ∈ T, Real.exp (score A n j - M) : ℝ) : EReal)
    ∧ ∀ e, o e = ((∑ j ∈ T, Real.exp (score A n j - M) * A j e : ℝ) : EReal)

/-- At the start nothing is held. -/
theorem held_start : Held A n ∅ ⊥ 0 (fun _ => 0) := Or.inl ⟨rfl, rfl, rfl, fun _ => rfl⟩

/-- A sum over the lanes of a chunk of what is nonzero at selected lanes only is the sum over the selected keys. -/
theorem sum_lanes {ι : Type*} [Fintype ι] (c : ι ↪ Fin 8192) (sel : ι → Prop) [DecidablePred sel] (f : Fin 8192 → ℝ) :
    (∑ j, if sel j then ((f (c j) : ℝ) : EReal) else 0)
      = ((∑ k ∈ (Finset.univ.filter sel).map c, f k : ℝ) : EReal) := by
  rw [Finset.sum_map, Finset.sum_filter, coe_sum]
  refine Finset.sum_congr rfl fun j _ => ?_
  split <;> simp

/-- One step: a chunk of keys `c j`, of which those with `sel j` are taken. -/
theorem held_step {ι : Type*} [Fintype ι] (c : ι ↪ Fin 8192) (sel : ι → Prop) [DecidablePred sel]
    {T : Finset (Fin 8192)} {m l : EReal} {o : Fin 16 → EReal} (h : Held A n T m l o)
    (hd : Disjoint T ((Finset.univ.filter sel).map c)) (s : ι → EReal)
    (hs : ∀ j, s j = if sel j then ((score A n (c j) : ℝ) : EReal) else ⊥) (μ : EReal)
    (hμ : (∀ j, s j ≤ μ) ∧ (μ = ⊥ ∨ ∃ j, μ = s j)) (m' l' : EReal) (o' : Fin 16 → EReal) (hm' : m' = max m μ)
    (hl' : l' = l * Ideal.exp (m - m') + ∑ j, (if sel j then Ideal.exp (s j - m') else 0))
    (ho' : ∀ e, o' e = o e * Ideal.exp (m - m') + ∑ j, (if sel j then Ideal.exp (s j - m') else 0) * ((A (c j) e : ℝ) : EReal)) :
    Held A n (T ∪ (Finset.univ.filter sel).map c) m' l' o' := by
  -- the new maximum is a real once there is a key
  have hμ' : (∀ j, ¬ sel j) ∧ μ = ⊥ ∨ (∃ j, sel j) ∧ ∃ r : ℝ, μ = r := by
    by_cases hex : ∃ j, sel j
    · refine Or.inr ⟨hex, ?_⟩
      obtain ⟨j, hj⟩ := hex
      have h1 : ((score A n (c j) : ℝ) : EReal) ≤ μ := by have := hμ.1 j; rwa [hs, if_pos hj] at this
      rcases hμ.2 with h0 | ⟨k, hk⟩
      · rw [h0] at h1; exact absurd h1 (by simp)
      · rw [hk, hs]
        by_cases hk' : sel k
        · exact ⟨_, if_pos hk'⟩
        · rw [hk, hs, if_neg hk'] at h1; exact absurd h1 (by simp)
    · refine Or.inl ⟨fun j hj => hex ⟨j, hj⟩, ?_⟩
      rcases hμ.2 with h0 | ⟨k, hk⟩
      · exact h0
      · rw [hk, hs, if_neg fun hj => hex ⟨k, hj⟩]
  -- the sums of the chunk, once the new maximum is a real
  have hsum : ∀ M' : ℝ, m' = M' → (∑ j, (if sel j then Ideal.exp (s j - m') else 0))
      = ((∑ k ∈ (Finset.univ.filter sel).map c, Real.exp (score A n k - M') : ℝ) : EReal) := fun M' hM' => by
    rw [← sum_lanes c sel fun k => Real.exp (score A n k - M')]
    refine Finset.sum_congr rfl fun j _ => ?_
    by_cases hj : sel j
    · rw [if_pos hj, if_pos hj, hs, if_pos hj, hM', ← EReal.coe_sub, Ideal.exp_coe]
    · rw [if_neg hj, if_neg hj]
  have hsumv : ∀ M' : ℝ, m' = M' → ∀ e,
      (∑ j, (if sel j then Ideal.exp (s j - m') else 0) * ((A (c j) e : ℝ) : EReal))
        = ((∑ k ∈ (Finset.univ.filter sel).map c, Real.exp (score A n k - M') * A k e : ℝ) : EReal) := fun M' hM' e => by
    rw [← sum_lanes c sel fun k => Real.exp (score A n k - M') * A k e]
    refine Finset.sum_congr rfl fun j _ => ?_
    by_cases hj : sel j
    · rw [if_pos hj, if_pos hj, hs, if_pos hj, hM', ← EReal.coe_sub, Ideal.exp_coe, ← EReal.coe_mul]
    · rw [if_neg hj, if_neg hj, zero_mul]
  rcases h with ⟨hT, hm, hl, ho⟩ | ⟨M, hT, hm, hl, ho⟩
  · subst hT
    rcases hμ' with ⟨hns, hμ0⟩ | ⟨⟨j, hj⟩, r, hr⟩
    · -- still nothing
      have hU : (Finset.univ.filter sel).map c = ∅ := by
        rw [Finset.filter_false_of_mem fun j _ => hns j, Finset.map_empty]
      refine Or.inl ⟨by rw [hU]; rfl, by rw [hm', hm, hμ0, max_self], ?_, fun e => ?_⟩
      · rw [hl', hl, zero_mul, zero_add]
        exact Finset.sum_eq_zero fun j _ => if_neg (hns j)
      · rw [ho', ho, zero_mul, zero_add]
        exact Finset.sum_eq_zero fun j _ => by rw [if_neg (hns j), zero_mul]
    · -- the first keys
      have hM' : m' = r := by rw [hm', hm, hr]; simp
      refine Or.inr ⟨r, ⟨c j, Finset.mem_union_right _ (Finset.mem_map_of_mem _ (by simp [hj]))⟩, hM', ?_, fun e => ?_⟩
      · rw [hl', hl, zero_mul, zero_add, hsum r hM', Finset.empty_union]
      · rw [ho', ho, zero_mul, zero_add, hsumv r hM', Finset.empty_union]
  · -- further keys
    obtain ⟨M', hM'⟩ : ∃ M' : ℝ, m' = M' := by
      rcases hμ' with ⟨_, hμ0⟩ | ⟨_, r, hr⟩
      · exact ⟨M, by rw [hm', hm, hμ0]; simp⟩
      · exact ⟨max M r, by rw [hm', hm, hr]; exact (EReal.coe_strictMono.monotone.map_max).symm⟩
    have hexp : ∀ k, Real.exp (score A n k - M) * Real.exp (M - M') = Real.exp (score A n k - M') := fun k => by
      rw [← Real.exp_add]; congr 1; ring
    refine Or.inr ⟨M', hT.mono Finset.subset_union_left, hM', ?_, fun e => ?_⟩
    · rw [hl', hl, hsum M' hM', hM', hm, ← EReal.coe_sub, Ideal.exp_coe, ← EReal.coe_mul, ← EReal.coe_add,
        Finset.sum_union hd, Finset.sum_mul]
      simp only [hexp]
    · rw [ho', ho, hsumv M' hM', hM', hm, ← EReal.coe_sub, Ideal.exp_coe, ← EReal.coe_mul, ← EReal.coe_add,
        Finset.sum_union hd, Finset.sum_mul]
      simp only [mul_right_comm _ (A _ e), hexp]

/-- At the end the quotient is the attention over the two balls. -/
theorem held_end {i₁ i₂ : Fin 128} {m l : EReal} {o : Fin 16 → EReal} (h : Held A n (keys i₁ i₂) m l o) (e : Fin 16) :
    Ideal.div (o e) l = ((attend A n i₁ i₂ e : ℝ) : EReal) := by
  rcases h with ⟨hT, _⟩ | ⟨M, _, _, hl, ho⟩
  · exact absurd hT (keys_nonempty i₁ i₂).ne_empty
  · have hp := weights_pos A n i₁ i₂ M
    rw [← attend_shift A n i₁ i₂ e M, hl, ho, Ideal.div, if_neg (by exact_mod_cast hp.ne'), EReal.coe_div, EReal.div_eq_inv_mul, mul_comm]

end Cert.Ball

end
-- ==== Proof.Block1.lean ====
/- What one block of the attention kernel computes, entry by entry: the logits of a query against the ball means, the two best
   balls, the scores of a chunk of keys with the keys of the other balls masked, and one step of the running softmax. -/
module

public import proofs.«01_k».proof.Proof.Gen.KernelIdeal.Frame
public import proofs.«01_k».proof.Proof.Online
public import proofs.«01_k».proof.Proof.Folds
public import proofs.«01_k».proof.Proof.Consts
public import Idealize.ShloMosaic.Lib.Pointwise
public import Idealize.ShloMosaic.PureOps.IdealRules

@[expose] public section

set_option maxRecDepth 16384

noncomputable section

namespace Cert.KernelIdeal.Block

open Idealize.ShloMosaic Idealize.ShloMosaic.WordCmp Cert.KernelIdeal Cert.KernelIdeal.Gen Cert.Ball

/-- The named mask is minus infinity. -/
theorem mask_eq : (Named.named κ "mask" 4048155338#32 : Ideal .f32) = (⊥ : EReal) :=
  IdealRules.named_const.ideal_named_scalar κ "mask" _ ⊥ rfl

/-- Key `j` of chunk `k`. -/
def key (k : Fin k1_t1_loop.trips) (j : Fin 1024) : Fin 8192 :=
  ⟨1024 * k.val + j.val, by
    have h : k.val < 8 := lt_of_lt_of_eq k.isLt (by decide)
    omega⟩

/-- The keys of a chunk are distinct. -/
def keyEmb (k : Fin k1_t1_loop.trips) : Fin 1024 ↪ Fin 8192 :=
  ⟨key k, fun i j h => Fin.ext (by
    have e : 1024 * k.val + i.val = 1024 * k.val + j.val := congrArg Fin.val h
    omega)⟩

variable (A : Fin 8192 → Fin 16 → ℝ) (n : Fin 8192) (i₁ i₂ : Fin 128)

/-- The logits. -/
theorem pay7_apply (v0 : Vec Ideal S1x512x16 .f32) (v2 : Vec Ideal S1x128x16 .f32) (r : Fin 512)
    (hq : ∀ e, v0 (ix3 0 r e) = (A n e : EReal)) (hk : ∀ b e, v2 (ix3 0 b e) = (mean A b e : EReal)) (b : Fin 128) :
    k1_pay7 v0 v2 (ix2 r b) = (logit A n b : EReal) := by
  pointwise [k1_pay7, k1_pay6]
  simp only [hq, hk, Consts.ofBits_eighth, ← EReal.coe_mul, ← coe_sum]
  rfl

/-- The two best balls, as the words that the block holds for a query. -/
theorem top2 (v0 : Vec Ideal S1x512x16 .f32) (v2 : Vec Ideal S1x128x16 .f32) (r : Fin 512)
    (hq : ∀ e, v0 (ix3 0 r e) = (A n e : EReal)) (hk : ∀ b e, v2 (ix3 0 b e) = (mean A b e : EReal)) :
    ∃ i₁ i₂, IsTop2 (logit A n) i₁ i₂ ∧ k1_pay8 v0 v2 (ix2 r 0) = BitVec.ofNat 32 i₁.val
      ∧ k1_pay9 v0 v2 (ix2 r 0) = BitVec.ofNat 32 i₂.val := by
  have h7 := pay7_apply A n v0 v2 r hq hk
  obtain ⟨i₁, e₁, m₁, l₁⟩ := first_max (fun b => (logit A n b : EReal))
  have h8 : k1_pay8 v0 v2 (ix2 r 0) = BitVec.ofNat 32 i₁.val := by
    pointwise [k1_pay8]
    simp only [h7, Consts.ofBits_bot]
    refine (congrArg (fun g => Finset.univ.fold IntOp.minsi 2147483647#32 g) (funext fun x => ?_)).trans e₁
    exact if_congr Iff.rfl rfl rfl
  obtain ⟨i₂, e₂, m₂, l₂⟩ := first_max (fun b => if b = i₁ then ⊥ else (logit A n b : EReal))
  refine ⟨i₁, i₂, isTop2_of _ _ _ m₁ l₁ m₂ l₂, h8, ?_⟩
  have hs : ∀ b : Fin 128, Scalar.select (IntOp.cmpi .eq (BitVec.ofNat 32 b.val) (BitVec.ofNat 32 i₁.val)) (⊥ : EReal)
      (logit A n b : EReal) = if b = i₁ then ⊥ else (logit A n b : EReal) := fun b => by
    by_cases h : b = i₁
    · subst h; rw [if_pos rfl, cmpi_eq_eq, decide_eq_true rfl]; rfl
    · rw [if_neg h, cmpi_eq_eq, decide_eq_false (fun h' => h ((ofNat_ball_eq_iff _ _).1 h'))]; rfl
  pointwise [k1_pay9]
  simp only [h7, h8, Consts.ofBits_bot, mask_eq, hs]
  refine (congrArg (fun g => Finset.univ.fold IntOp.minsi 2147483647#32 g) (funext fun x => ?_)).trans e₂
  exact if_congr Iff.rfl rfl rfl

/-- The mask of a chunk: a key is taken when its ball is one of the two. -/
theorem pay3_apply (v15 v27 : IVec S512x1 32) (k : Fin k1_t1_loop.trips) (r : Fin 512)
    (h1 : v15 (ix2 r 0) = BitVec.ofNat 32 i₁.val) (h2 : v27 (ix2 r 0) = BitVec.ofNat 32 i₂.val) (j : Fin 1024) :
    k1_pay3 v15 v27 0#32 1#32 k (ix2 r j) = BitVec.ofBool (decide (ball (key k j) = i₁ ∨ ball (key k j) = i₂)) := by
  have hw : IntOp.addi (Scalar.muli (Scf.iv 0#32 1#32 k.val) 1024#32) (BitVec.ofNat 32 j.val) = BitVec.ofNat 32 (key k j).val := by
    have e : ∀ k : Fin k1_t1_loop.trips, Scalar.muli (Scf.iv 0#32 1#32 k.val) 1024#32 = BitVec.ofNat 32 (1024 * k.val) := by
      decide +kernel
    rw [e]
    exact (BitVec.ofNat_add _ _).symm
  have hf := floorDiv_ofNat (key k j)
  pointwise [k1_pay3]
  rw [hw, h1, h2]
  show IntOp.ori (IntOp.cmpi .eq (floorDiv _) _) (IntOp.cmpi .eq (floorDiv _) _) = _
  rw [hf, cmpi_eq_eq, cmpi_eq_eq, ori_ofBool]
  simp only [ofNat_ball_eq_iff, Bool.decide_or]

/-- The masked scores of a chunk. -/
theorem pay4_apply (v0 : Vec Ideal S1x512x16 .f32) (v15 v27 : IVec S512x1 32) (k : Fin k1_t1_loop.trips) (r : Fin 512)
    (v40 : Vec Ideal S1x1024x16 .f32) (hq : ∀ e, v0 (ix3 0 r e) = (A n e : EReal))
    (hv : ∀ j e, v40 (ix3 0 j e) = (A (key k j) e : EReal))
    (h1 : v15 (ix2 r 0) = BitVec.ofNat 32 i₁.val) (h2 : v27 (ix2 r 0) = BitVec.ofNat 32 i₂.val) (j : Fin 1024) :
    k1_pay4 (k1_pay6 v0) v15 v27 0#32 1#32 k v40 (ix2 r j)
      = if ball (key k j) = i₁ ∨ ball (key k j) = i₂ then (score A n (key k j) : EReal) else ⊥ := by
  have h3 := pay3_apply i₁ i₂ v15 v27 k r h1 h2 j
  pointwise [k1_pay4, k1_pay2, k1_pay6]
  simp only [h3, hq, hv, Consts.ofBits_quarter, mask_eq, ← EReal.coe_mul, ← coe_sum]
  by_cases h : ball (key k j) = i₁ ∨ ball (key k j) = i₂
  · rw [if_pos h, decide_eq_true h]; rfl
  · rw [if_neg h, decide_eq_false h]; rfl

/-- The greatest masked score of a chunk. -/
theorem pay5_spec (v1 : FVec Ideal S512x16 .f32) (v15 v27 : IVec S512x1 32) (k : Fin k1_t1_loop.trips) (r : Fin 512)
    (v40 : Vec Ideal S1x1024x16 .f32) :
    (∀ j, k1_pay4 v1 v15 v27 0#32 1#32 k v40 (ix2 r j) ≤ k1_pay5 v1 v15 v27 0#32 1#32 k v40 (ix2 r 0))
      ∧ (k1_pay5 v1 v15 v27 0#32 1#32 k v40 (ix2 r 0) = ⊥
        ∨ ∃ j, k1_pay5 v1 v15 v27 0#32 1#32 k v40 (ix2 r 0) = k1_pay4 v1 v15 v27 0#32 1#32 k v40 (ix2 r j)) := by
  have h : k1_pay5 v1 v15 v27 0#32 1#32 k v40 (ix2 r 0)
      = Finset.univ.fold max ⊥ fun j => k1_pay4 v1 v15 v27 0#32 1#32 k v40 (ix2 r j) := by
    pointwise [k1_pay5]
    rw [Consts.ofBits_bot]
  rw [h]
  obtain ⟨a, b⟩ := foldMax_spec Finset.univ fun j => k1_pay4 v1 v15 v27 0#32 1#32 k v40 (ix2 r j)
  exact ⟨fun j => a j (Finset.mem_univ j), b.imp_right fun ⟨j, _, e⟩ => ⟨j, e⟩⟩

/-- One step of the running softmax at a query: from what is held of the keys `T`, a chunk of keys disjoint from `T` gives what
    is held of `T` and the chunk's taken keys. -/
theorem step_held (v0 : Vec Ideal S1x512x16 .f32) (v15 v27 : IVec S512x1 32) (k : Fin k1_t1_loop.trips) (r : Fin 512)
    (v40 : Vec Ideal S1x1024x16 .f32) (hq : ∀ e, v0 (ix3 0 r e) = (A n e : EReal))
    (hv : ∀ j e, v40 (ix3 0 j e) = (A (key k j) e : EReal))
    (h1 : v15 (ix2 r 0) = BitVec.ofNat 32 i₁.val) (h2 : v27 (ix2 r 0) = BitVec.ofNat 32 i₂.val)
    (m l : FVec Ideal S512x1 .f32) (o : FVec Ideal S512x16 .f32) (T : Finset (Fin 8192))
    (hd : Disjoint T ((Finset.univ.filter fun j => ball (key k j) = i₁ ∨ ball (key k j) = i₂).map (keyEmb k)))
    (h : Held A n T (m (ix2 r 0)) (l (ix2 r 0)) fun e => o (ix2 r e)) :
    Held A n (T ∪ (Finset.univ.filter fun j => ball (key k j) = i₁ ∨ ball (key k j) = i₂).map (keyEmb k))
      (k1_pay13 m (k1_pay5 (k1_pay6 v0) v15 v27 0#32 1#32 k v40) (ix2 r 0))
      (k1_pay16 m l (k1_pay3 v15 v27 0#32 1#32 k) (k1_pay4 (k1_pay6 v0) v15 v27 0#32 1#32 k v40)
        (k1_pay5 (k1_pay6 v0) v15 v27 0#32 1#32 k v40) (ix2 r 0))
      fun e => k1_pay17 m o (k1_pay2 v40) (k1_pay3 v15 v27 0#32 1#32 k) (k1_pay4 (k1_pay6 v0) v15 v27 0#32 1#32 k v40)
        (k1_pay5 (k1_pay6 v0) v15 v27 0#32 1#32 k v40) (ix2 r e) := by
  have h3 := pay3_apply i₁ i₂ v15 v27 k r h1 h2
  have h4 := pay4_apply A n i₁ i₂ v0 v15 v27 k r v40 hq hv h1 h2
  have h5 := pay5_spec (k1_pay6 v0) v15 v27 k r v40
  generalize k1_pay5 (k1_pay6 v0) v15 v27 0#32 1#32 k v40 = v81 at h5 ⊢
  generalize k1_pay4 (k1_pay6 v0) v15 v27 0#32 1#32 k v40 = v79 at h4 h5 ⊢
  generalize k1_pay3 v15 v27 0#32 1#32 k = v77 at h3 ⊢
  have hs : ∀ (j : Fin 1024) (x : EReal), Scalar.select (v77 (ix2 r j)) x 0
      = if ball (key k j) = i₁ ∨ ball (key k j) = i₂ then x else 0 := fun j x => by
    rw [h3]
    by_cases h : ball (key k j) = i₁ ∨ ball (key k j) = i₂
    · rw [if_pos h, decide_eq_true h]; rfl
    · rw [if_neg h, decide_eq_false h]; rfl
  have h13 : k1_pay13 m v81 (ix2 r 0) = max (m (ix2 r 0)) (v81 (ix2 r 0)) := by pointwise [k1_pay13]
  refine held_step A n (keyEmb k) (fun j => ball (key k j) = i₁ ∨ ball (key k j) = i₂) h hd (fun j => v79 (ix2 r j)) h4
    (v81 (ix2 r 0)) h5 _ _ _ h13 ?_ fun e => ?_
  · rw [h13]
    pointwise [k1_pay16, k1_pay14, k1_pay15, k1_pay13]
    simp only [hs]
  · rw [h13]
    pointwise [k1_pay17, k1_pay14, k1_pay15, k1_pay13, k1_pay2]
    simp only [hs, hv, ite_mul, zero_mul]
    rfl

/-- The last division. -/
theorem pay18_apply (l : FVec Ideal S512x1 .f32) (o : FVec Ideal S512x16 .f32) (r : Fin 512) (e : Fin 16) :
    k1_pay1 (k1_pay18 l o) (ix3 0 r e) = Ideal.div (o (ix2 r e)) (l (ix2 r 0)) := by
  pointwise [k1_pay1, k1_pay18]

/-- Where the running softmax starts. -/
theorem init_held (r : Fin 512) : Held A n ∅ (k1_pay10 (F := Ideal) (ix2 r 0)) (k1_pay11 (F := Ideal) (ix2 r 0))
    fun e => k1_pay12 (F := Ideal) (ix2 r e) := by
  have e10 : k1_pay10 (F := Ideal) (ix2 r 0) = (⊥ : EReal) := by
    pointwise [k1_pay10]
    exact mask_eq
  have e11 : k1_pay11 (F := Ideal) (ix2 r 0) = (0 : EReal) := by pointwise [k1_pay11]
  have e12 : (fun e => k1_pay12 (F := Ideal) (ix2 r e)) = fun _ => (0 : EReal) := by
    funext e; pointwise [k1_pay12]
  rw [e10, e11, e12]
  exact held_start A n

end Cert.KernelIdeal.Block

end
-- ==== Proof.Loop1.lean ====
/- The attention kernel's block from its parts: the eight chunks of keys, taken one after the other, hold all the keys of the two
   best balls, and the block that is stored is the attention over them. -/
module

public import proofs.«01_k».proof.Proof.Block1
public import Idealize.ShloMosaic.Lib.Pipeline.ValueKit

@[expose] public section

set_option maxRecDepth 16384

noncomputable section

namespace Cert.KernelIdeal.Block

open Idealize.ShloMosaic Cert.KernelIdeal Cert.KernelIdeal.Gen Cert.Ball

variable (A : Fin 8192 → Fin 16 → ℝ) (n : Fin 8192) (i₁ i₂ : Fin 128)

/-- The keys of the two balls that lie in the first `k` chunks. -/
def before (k : ℕ) : Finset (Fin 8192) := (keys i₁ i₂).filter fun j => j.val < 1024 * k

/-- Before the first chunk there is no key. -/
theorem before_zero : before i₁ i₂ 0 = ∅ := by
  ext j; simp [before]

/-- After the eighth chunk every key has been met. -/
theorem before_last : before i₁ i₂ k1_t1_loop.trips = keys i₁ i₂ := by
  rw [show k1_t1_loop.trips = 8 by decide]
  exact Finset.filter_true_of_mem fun j _ => by omega

/-- The taken keys of a chunk. -/
abbrev taken (k : Fin k1_t1_loop.trips) : Finset (Fin 8192) :=
  (Finset.univ.filter fun j => ball (key k j) = i₁ ∨ ball (key k j) = i₂).map (keyEmb k)

/-- The taken keys of a chunk are the keys of the two balls whose place lies in the chunk. -/
theorem mem_taken (k : Fin k1_t1_loop.trips) (j : Fin 8192) :
    j ∈ taken i₁ i₂ k ↔ (ball j = i₁ ∨ ball j = i₂) ∧ 1024 * k.val ≤ j.val ∧ j.val < 1024 * (k.val + 1) := by
  rw [Finset.mem_map]
  constructor
  · rintro ⟨x, hx, rfl⟩
    have hv : (keyEmb k x).val = 1024 * k.val + x.val := rfl
    exact ⟨(Finset.mem_filter.1 hx).2, by omega, by omega⟩
  · rintro ⟨hb, hl, hu⟩
    have hj : key k ⟨j.val - 1024 * k.val, by omega⟩ = j :=
      Fin.ext (show 1024 * k.val + (j.val - 1024 * k.val) = j.val by omega)
    exact ⟨⟨j.val - 1024 * k.val, by omega⟩, Finset.mem_filter.2 ⟨Finset.mem_univ _, by rw [hj]; exact hb⟩, hj⟩

/-- A chunk's taken keys are new. -/
theorem disjoint_taken (k : Fin k1_t1_loop.trips) : Disjoint (before i₁ i₂ k.val) (taken i₁ i₂ k) :=
  Finset.disjoint_left.2 fun j hj hj' => by
    have h1 := (Finset.mem_filter.1 hj).2
    have h2 := ((mem_taken i₁ i₂ k j).1 hj').2.1
    omega

/-- Meeting one more chunk. -/
theorem before_succ (k : Fin k1_t1_loop.trips) : before i₁ i₂ k.val ∪ taken i₁ i₂ k = before i₁ i₂ (k.val + 1) := by
  ext j
  rw [Finset.mem_union, mem_taken, before, before, Finset.mem_filter, Finset.mem_filter, mem_keys]
  constructor
  · rintro (⟨h, hl⟩ | ⟨h, _, hl⟩)
    · exact ⟨h, by omega⟩
    · exact ⟨h, hl⟩
  · rintro ⟨h, hl⟩
    by_cases hk : j.val < 1024 * k.val
    · exact Or.inl ⟨h, hk⟩
    · exact Or.inr ⟨h, by omega, hl⟩

/-- The keys that a step loads are the keys of its chunk. -/
theorem ld_chunk (x1 : Vec Ideal S1x8192x16 .f32) (k : Fin k1_t1_loop.trips)
    (inb : ∀ a, ![0, BitVec.toNat (Scalar.indexCast (Scalar.muli (Scf.iv 0#32 1#32 k.val) 1024#32)), 0] a + ![1, 1024, 16] a
      ≤ S1x8192x16.size a) (j : Fin 1024) (e : Fin 16) :
    View.ld x1 (Rect.unit ![0, BitVec.toNat (Scalar.indexCast (Scalar.muli (Scf.iv 0#32 1#32 k.val) 1024#32)), 0]
      ![1, 1024, 16] inb) (ix3 0 j e) = x1 (ix3 0 (key k j) e) := by
  have ho : ∀ k : Fin k1_t1_loop.trips,
      BitVec.toNat (Scalar.indexCast (Scalar.muli (Scf.iv 0#32 1#32 k.val) 1024#32)) = 1024 * k.val := by decide +kernel
  refine congrArg x1 ?_
  funext a
  apply Fin.ext
  fin_cases a
  · rfl
  · show BitVec.toNat _ + 1 * j.val = 1024 * k.val + j.val
    rw [ho, one_mul]
  · show 0 + 1 * e.val = e.val
    omega

variable (𝒱 : Variants) (c : Dev nD) (bd : Option 𝒱.V) (i : grid1.Coords)
  (arg2 : Memref sig .tc .vmem S1x128x16 .f32) (harg2 : arg2.IsWhole) (arg3 : Memref sig .tc .vmem S1x8192x16 .f32) (harg3 : arg3.IsWhole)
  (arg4 : Memref sig .tc .vmem S1x512x16 .f32) (harg4 : arg4.IsWhole) (arg5 : Memref sig .tc .vmem S1x512x16 .f32) (harg5 : arg5.IsWhole)

/-- What a query holds before chunk `k`: the running softmax of the keys met so far. -/
theorem st_held (v0 : Vec Ideal S1x512x16 .f32) (v2 : Vec Ideal S1x128x16 .f32) (x1 : Vec Ideal S1x8192x16 .f32) (r : Fin 512)
    (hq : ∀ e, v0 (ix3 0 r e) = (A n e : EReal)) (hv : ∀ j e, x1 (ix3 0 j e) = (A j e : EReal))
    (h1 : k1_pay8 v0 v2 (ix2 r 0) = BitVec.ofNat 32 i₁.val) (h2 : k1_pay9 v0 v2 (ix2 r 0) = BitVec.ofNat 32 i₂.val)
    (k : ℕ) (hk : k ≤ k1_t1_loop.trips) :
    Held A n (before i₁ i₂ k)
      ((st_k1_t1 (F := Ideal) 𝒱 c bd i arg2 harg2 arg3 harg3 arg4 harg4 arg5 harg5 v0 v2 (harg3.unread x1)
        (k1_pay10, k1_pay11, k1_pay12) k).1 (ix2 r 0))
      ((st_k1_t1 (F := Ideal) 𝒱 c bd i arg2 harg2 arg3 harg3 arg4 harg4 arg5 harg5 v0 v2 (harg3.unread x1)
        (k1_pay10, k1_pay11, k1_pay12) k).2.1 (ix2 r 0))
      fun e => (st_k1_t1 (F := Ideal) 𝒱 c bd i arg2 harg2 arg3 harg3 arg4 harg4 arg5 harg5 v0 v2 (harg3.unread x1)
        (k1_pay10, k1_pay11, k1_pay12) k).2.2 (ix2 r e) := by
  induction k with
  | zero =>
    rw [st_k1_t1_zero, before_zero]
    exact init_held A n r
  | succ k ih =>
    have h := ih (by omega)
    have hs := st_k1_t1_succ (F := Ideal) 𝒱 c bd i arg2 harg2 arg3 harg3 arg4 harg4 arg5 harg5 v0 v2 (harg3.unread x1)
      (k1_pay10, k1_pay11, k1_pay12) ⟨k, hk⟩
    rw [hs, ← before_succ i₁ i₂ ⟨k, hk⟩]
    generalize st_k1_t1 (F := Ideal) 𝒱 c bd i arg2 harg2 arg3 harg3 arg4 harg4 arg5 harg5 v0 v2 (harg3.unread x1)
      (k1_pay10, k1_pay11, k1_pay12) k = acc at h ⊢
    unfold tripR_k1_t1 trip_k1_t1
    dsimp only
    sl_unfold_words
    simp only [View.readAt_eq_ld, harg3.read_unread]
    exact step_held A n i₁ i₂ v0 _ _ ⟨k, hk⟩ r _ hq (fun j e => (ld_chunk x1 ⟨k, hk⟩ _ j e).trans (hv _ e)) h1 h2 _ _ _ _
      (disjoint_taken i₁ i₂ ⟨k, hk⟩) h

/-- The block that the attention kernel stores: at each query, the answer. -/
theorem out1_answer (x0 : Vec Ideal S1x128x16 .f32) (x1 : Vec Ideal S1x8192x16 .f32) (x2 : Vec Ideal S1x512x16 .f32) (r : Fin 512)
    (hq : ∀ e, x2 (ix3 0 r e) = (A n e : EReal)) (hv : ∀ j e, x1 (ix3 0 j e) = (A j e : EReal))
    (hm : ∀ b e, x0 (ix3 0 b e) = (mean A b e : EReal)) :
    Answer A n fun e => out1_A_3 c i arg2 harg2 arg3 harg3 arg4 harg4 arg5 harg5 x0 x1 x2 (ix3 0 r e) := by
  obtain ⟨i₁, i₂, ht, h1, h2⟩ := top2 A n x2 x0 r hq hm
  refine ⟨i₁, i₂, ht, fun e => ?_⟩
  have hl := st_held A n i₁ i₂ Variants.none c none i arg2 harg2 arg3 harg3 arg4 harg4 arg5 harg5 x2 x0 x1 r hq hv h1 h2 _ le_rfl
  rw [before_last] at hl
  rw [← held_end A n hl e]
  frame_out
  exact pay18_apply _ _ r e

end Cert.KernelIdeal.Block

end
-- ==== Proof.Arrays1.lean ====
/- What the attention kernel's region leaves in its array: at every head and every query, the answer. -/
module

public import proofs.«01_k».proof.Proof.Loop1

@[expose] public section

set_option maxRecDepth 16384

noncomputable section

namespace Cert.KernelIdeal.Block

open Idealize.ShloMosaic Idealize.ShloMosaic.TcCoe Idealize.ShloMosaic.Pipeline Cert.KernelIdeal Cert.KernelIdeal.Gen Cert.Ball

variable (V : (c : Dev nD) → (b : Ref sig .tc) → Buf (Elt Ideal) ((c : Thread nD τ).loc b)) (c : Dev nD)
  (Z : Fin 8192 → Fin 64 → ℝ)

/-- The head of a grid point. -/
def hd (t : Fin cfg1.N) : Fin 4 := ⟨t.val % 4, Nat.mod_lt _ (by omega)⟩

/-- Query `r` of a grid point's block of queries. -/
def qry (t : Fin cfg1.N) (r : Fin 512) : Fin 8192 :=
  ⟨512 * (t.val / 4) + r.val, by
    have h : t.val < 64 := lt_of_lt_of_eq t.isLt (by decide +kernel)
    omega⟩

/-- Where the windows' blocks lie. -/
theorem index1 : ∀ t : Fin grid1.N, win1_0.index t 0 = t.val % 4 ∧ win1_0.index t 1 = 0 ∧ win1_0.index t 2 = 0
    ∧ win1_1.index t 0 = t.val % 4 ∧ win1_1.index t 1 = 0 ∧ win1_1.index t 2 = 0
    ∧ win1_2.index t 0 = t.val % 4 ∧ win1_2.index t 1 = t.val / 4 ∧ win1_2.index t 2 = 0
    ∧ win1_3.index t 0 = t.val % 4 ∧ win1_3.index t 1 = t.val / 4 ∧ win1_3.index t 2 = 0 := by decide +kernel

/-- The means of a head, as the region reads them. -/
theorem blk1_0 (t : Fin cfg1.N) (b : Fin 128) (e : Fin 16) : iblk1 V c 0 t (ix3 0 b e) = V c main_v2 (ix3 (hd t) b e) := by
  obtain ⟨h0, h1, h2, -⟩ := index1 t
  have hp : (hd t).val = t.val % 4 := rfl
  unfold iblk1
  blk_simp
  blk_ext [h0, h1, h2]

/-- All the points of a head, as the region reads them. -/
theorem blk1_1 (t : Fin cfg1.N) (n : Fin 8192) (e : Fin 16) : iblk1 V c 1 t (ix3 0 n e) = V c main_v0_0 (ix3 (hd t) n e) := by
  obtain ⟨-, -, -, h0, h1, h2, -⟩ := index1 t
  have hp : (hd t).val = t.val % 4 := rfl
  unfold iblk1
  blk_simp
  blk_ext [h0, h1, h2]

/-- A block of queries of a head, as the region reads it. -/
theorem blk1_2 (t : Fin cfg1.N) (r : Fin 512) (e : Fin 16) :
    iblk1 V c 2 t (ix3 0 r e) = V c main_v0_0 (ix3 (hd t) (qry t r) e) := by
  obtain ⟨-, -, -, -, -, -, h0, h1, h2, -⟩ := index1 t
  have hp : (hd t).val = t.val % 4 := rfl
  have hq : (qry t r).val = 512 * (t.val / 4) + r.val := rfl
  unfold iblk1
  blk_simp
  blk_ext [h0, h1, h2]

/-- The array of the answers. -/
theorem arr1_3 (hx : ∀ h n e, V c main_v0_0 (ix3 h n e) = (headOf Z h n e : EReal))
    (hm : ∀ h b e, V c main_v2 (ix3 h b e) = (mean (headOf Z h) b e : EReal)) :
    (dat1 V c).arrAt 3 cfg1.N = fun y : S4x8192x16.Idx => best (headOf Z (y 0)) (y 1) (y 2) := by
  refine (dat1 V c).arrAt_eq_of_covers 3 _ (by decide +kernel) fun t hf y => ?_
  obtain ⟨-, -, -, -, -, -, -, -, -, h0, h1, h2⟩ := index1 t
  blk_simp
  rw [after1_3]
  have hy : y = ix3 (0 : Fin 1) (y 1 : Fin 512) (y 2 : Fin 16) := by blk_ext
  have a := out1_answer (headOf Z (hd t)) (qry t (y 1)) c (grid1.coords t) (ms1_0 t) (hs1_0 t) (ms1_1 t) (hs1_1 t) (ms1_2 t) (hs1_2 t)
    (ms1_3 t) (hs1_3 t) (iblk1 V c 0 t) (iblk1 V c 1 t) (iblk1 V c 2 t) (y 1) (fun e => (blk1_2 V c t (y 1) e).trans (hx _ _ e))
    (fun n e => (blk1_1 V c t n e).trans (hx _ _ e)) (fun b e => (blk1_0 V c t b e).trans (hm _ b e))
  refine (congrArg (outsAt1 V c t) hy).trans ((a.eq_best _ (y 2)).trans ?_)
  have e0 : (win1_3.blk t).view.emb y 0 = hd t := Fin.ext (by blk_simp [h0]; rfl)
  have e1 : (win1_3.blk t).view.emb y 1 = qry t (y 1) :=
    Fin.ext (by blk_simp [h1]; show _ = 512 * (t.val / 4) + (y 1).val; omega)
  have e2 : (win1_3.blk t).view.emb y 2 = (y 2 : Fin 16) := Fin.ext (by blk_simp [h2])
  rw [e0, e1, e2]

end Cert.KernelIdeal.Block

end
-- ==== Proof.KernelValue.lean ====
/- What the kernel program leaves in its result: at every query and every head, the answer. -/
module

public import proofs.«01_k».proof.Proof.Arrays0
public import proofs.«01_k».proof.Proof.Arrays1

@[expose] public section

set_option maxRecDepth 16384

noncomputable section

namespace Cert.KernelIdeal.Whole

open Idealize.ShloMosaic Idealize.ShloMosaic.TcCoe Idealize.ShloMosaic.Tactic Idealize.ShloMosaic.StableHlo
open Cert.KernelIdeal Cert.KernelIdeal.Gen Cert.KernelIdeal.Block Cert.Ball

variable (m : (ℓ : Loc nD τ sig) → Buf (Elt Ideal) ℓ) (ρ : Dev nD → PrngReg) (c : Dev nD)
  (X P : Fin 8192 → Fin 64 → ℝ)
  (hX : ∀ n d, m ((c.tc : Thread nD τ).loc main_arg0) (ValueIdx.ix2 n d) = ((X n d : ℝ) : EReal))
  (hP : ∀ n d, m ((c.tc : Thread nD τ).loc main_arg1) (ValueIdx.ix2 n d) = ((P n d : ℝ) : EReal))

include hX hP

/-- The points of every head, after the host lines between the two grids. -/
theorem points (h : Fin 4) (n : Fin 8192) (e : Fin 16) :
    W2 m ρ c (Proc.devRef .tc main_v0_0) (ValueIdx.ix3 h n e) = ((headOf (embed X P) h n e : ℝ) : EReal) := by
  rw [W2_of m ρ c main_v0_0 (by decide)]
  refine (congrFun (W1_arr m ρ c 2) (ValueIdx.ix3 h n e)).trans ?_
  exact congrFun (arr0_2 (V0 m ρ) c X P hX hP) (ValueIdx.ix3 h n e)

/-- The mean of every ball of every head, after the host lines between the two grids. -/
theorem means (h : Fin 4) (b : Fin 128) (e : Fin 16) :
    W2 m ρ c (Proc.devRef .tc main_v2) (ValueIdx.ix3 h b e) = ((mean (headOf (embed X P) h) b e : ℝ) : EReal) := by
  have e1 : W2 m ρ c (Proc.devRef .tc main_v2)
      = transpose S4x128x16 [1, 0, 2]
          (shapeCast S128x4x16 (W1 m ρ c (Proc.devRef .tc main_v0_1)) shapeCasts_S128x1x64_S128x4x16)
          transposes_S128x4x16_S4x128x16_1_0_2 := by
    show StableHlo.after hostOps1 (W1 m ρ c) (Proc.devRef .tc main_v2) = _
    after_results
    rfl
  rw [e1]
  refine (transpose_apply _ _ _ _ (ValueIdx.ix3 b h e) fun a => ?_).trans ?_
  · fin_cases a <;> rfl
  refine (shapeCast_apply _ _ _ (ValueIdx.ix3 b 0 (col h e)) ?_).trans ?_
  · rw [Shape.rowMajor_val_three, Shape.rowMajor_val_three]
    show (b.val * 1 + 0) * 64 + (16 * h.val + e.val) = (b.val * 4 + h.val) * 16 + e.val
    omega
  refine (congrFun (W1_arr m ρ c 3) (ValueIdx.ix3 b 0 (col h e))).trans ?_
  exact congrFun (arr0_3 (V0 m ρ) c X P hX hP) (ValueIdx.ix3 b 0 (col h e))

/-- The result: at query `n` and head `h`, the answer for that head's points. -/
theorem result_eq : W4 m ρ c (Proc.devRef .tc main_v4)
    = fun y : S8192x4x16.Idx => best (headOf (embed X P) (y 1)) (y 0) (y 2) := by
  have e1 : W4 m ρ c (Proc.devRef .tc main_v4)
      = transpose S8192x4x16 [1, 0, 2] (W3 m ρ c (Proc.devRef .tc main_v3)) transposes_S4x8192x16_S8192x4x16_1_0_2 := by
    show StableHlo.after hostOps2 (W3 m ρ c) (Proc.devRef .tc main_v4) = _
    after_results
  rw [e1]
  funext y
  refine (transpose_apply _ _ _ _ (ValueIdx.ix3 (y 1) (y 0) (y 2)) fun a => ?_).trans ?_
  · fin_cases a <;> rfl
  refine (congrFun (W3_arr m ρ c 3) (ValueIdx.ix3 (y 1) (y 0) (y 2))).trans ?_
  exact congrFun (arr1_3 (V2 m ρ) c (embed X P) (points m ρ c X P hX hP) (means m ρ c X P hX hP)) _

end Cert.KernelIdeal.Whole

end
-- ==== Proof.RefMax.lean ====
/- The reference's two row maxima, read at an index. -/
module

public import proofs.«01_k».proof.Proof.Gen.ReferenceIdeal.Run
public import Idealize.ShloMosaic.Lib.Pointwise

@[expose] public section

set_option maxRecDepth 16384

noncomputable section

namespace Cert.ReferenceIdeal.Math

open Idealize.ShloMosaic Idealize.ShloMosaic.TcCoe Cert.ReferenceIdeal Cert.ReferenceIdeal.Gen

/-- The greatest logit of a query. -/
theorem rowMax (x : FVec Ideal S4x8192x128 .f32) (v : FVec Ideal S_ .f32) (h : Fin 4) (n : Fin 8192) :
    Host.reduce FloatOps.maximumf x v reducesTo_S4x8192x128_S4x8192_d2 h_S_ (ix2 h n)
      = Finset.univ.fold max (v ix0) fun b : Fin 128 => x (ix3 h n b) := by
  pointwise
  exact congrArg (fun q => Finset.univ.fold max (v q) _) (funext fun a => a.elim0)

/-- The greatest score of a query. -/
theorem scoreMax (x : FVec Ideal S8192x4x1x128 .f32) (v : FVec Ideal S_ .f32) (n : Fin 8192) (h : Fin 4) :
    Host.reduce FloatOps.maximumf x v reducesTo_S8192x4x1x128_S8192x4x1_d3 h_S_ (ix3 n h 0)
      = Finset.univ.fold max (v ix0) fun b : Fin 128 => x (ix4 n h 0 b) := by
  pointwise
  exact congrArg (fun q => Finset.univ.fold max (v q) _) (funext fun a => a.elim0)

/-- The exponentials of a table of logits less one number a query. -/
theorem expSub_apply (x : FVec Ideal S4x8192x128 .f32) (M : FVec Ideal S4x8192 .f32) (h : Fin 4) (n : Fin 8192) (b : Fin 128) :
    Host.exp (subf x (broadcastInDim S4x8192x128 ![0, 1, 2] bcast_S4x8192x1_S4x8192x128_0_1_2
      (broadcastInDim S4x8192x1 ![0, 1] bcast_S4x8192_S4x8192x1_0_1 M))) (ix3 h n b) = Ideal.exp (x (ix3 h n b) - M (ix2 h n)) := by
  pointwise

/-- A table of numbers, one a query of a head, raised to a floor. -/
theorem floor_apply (w : BitVec 32) (M : FVec Ideal S4x8192 .f32) (h : Fin 4) (n : Fin 8192) :
    maximumf (broadcastInDim S4x8192 ![] bcast_S_S4x8192 (constant S_ .f32 w)) M (ix2 h n)
      = max (Ideal.ofBits .f32 w) (M (ix2 h n)) := rfl

/-- The exponentials of a table of scores less one number a query. -/
theorem scoreExpSub_apply (x : FVec Ideal S8192x4x1x128 .f32) (M : FVec Ideal S8192x4x1 .f32) (n : Fin 8192) (h : Fin 4)
    (b : Fin 128) :
    Host.exp (subf x (broadcastInDim S8192x4x1x128 ![0, 1, 2, 3] bcast_S8192x4x1x1_S8192x4x1x128_0_1_2_3
      (broadcastInDim S8192x4x1x1 ![0, 1, 2] bcast_S8192x4x1_S8192x4x1x1_0_1_2 M))) (ix4 n h 0 b)
      = Ideal.exp (x (ix4 n h 0 b) - M (ix3 n h 0)) := by
  pointwise

/-- A table of numbers, one a head of a query, raised to a floor. -/
theorem scoreFloor_apply (w : BitVec 32) (M : FVec Ideal S8192x4x1 .f32) (n : Fin 8192) (h : Fin 4) :
    maximumf (broadcastInDim S8192x4x1 ![] bcast_S_S8192x4x1 (constant S_ .f32 w)) M (ix3 n h 0)
      = max (Ideal.ofBits .f32 w) (M (ix3 n h 0)) := rfl

/-- The exponentials of the logits less the greatest one, the maximum started and floored at the number `w`. -/
def numer (w : BitVec 32) (x : FVec Ideal S4x8192x128 .f32) : FVec Ideal S4x8192x128 .f32 :=
  Host.exp (subf x (broadcastInDim S4x8192x128 ![0, 1, 2] bcast_S4x8192x1_S4x8192x128_0_1_2
    (broadcastInDim S4x8192x1 ![0, 1] bcast_S4x8192_S4x8192x1_0_1
      (maximumf (broadcastInDim S4x8192 ![] bcast_S_S4x8192 (constant S_ .f32 w))
        (Host.reduce FloatOps.maximumf x (constant S_ .f32 w) reducesTo_S4x8192x128_S4x8192_d2 h_S_)))))

/-- One of them, read at an index. -/
theorem numer_apply (w : BitVec 32) (x : FVec Ideal S4x8192x128 .f32) (h : Fin 4) (n : Fin 8192) (b : Fin 128) :
    numer w x (ix3 h n b) = Ideal.exp (x (ix3 h n b)
      - max (Ideal.ofBits .f32 w) (Finset.univ.fold max (Ideal.ofBits .f32 w) fun b' : Fin 128 => x (ix3 h n b'))) :=
  (expSub_apply x _ h n b).trans (congrArg (fun M => Ideal.exp (x (ix3 h n b) - M))
    ((floor_apply w _ h n).trans (congrArg (max (Ideal.ofBits .f32 w)) (rowMax x (constant S_ .f32 w) h n))))

/-- The exponentials of the scores less the greatest one, the maximum started and floored at the number `w`. -/
def scoreNumer (w : BitVec 32) (x : FVec Ideal S8192x4x1x128 .f32) : FVec Ideal S8192x4x1x128 .f32 :=
  Host.exp (subf x (broadcastInDim S8192x4x1x128 ![0, 1, 2, 3] bcast_S8192x4x1x1_S8192x4x1x128_0_1_2_3
    (broadcastInDim S8192x4x1x1 ![0, 1, 2] bcast_S8192x4x1_S8192x4x1x1_0_1_2
      (maximumf (broadcastInDim S8192x4x1 ![] bcast_S_S8192x4x1 (constant S_ .f32 w))
        (Host.reduce FloatOps.maximumf x (constant S_ .f32 w) reducesTo_S8192x4x1x128_S8192x4x1_d3 h_S_)))))

/-- One of them, read at an index. -/
theorem scoreNumer_apply (w : BitVec 32) (x : FVec Ideal S8192x4x1x128 .f32) (n : Fin 8192) (h : Fin 4) (b : Fin 128) :
    scoreNumer w x (ix4 n h 0 b) = Ideal.exp (x (ix4 n h 0 b)
      - max (Ideal.ofBits .f32 w) (Finset.univ.fold max (Ideal.ofBits .f32 w) fun b' : Fin 128 => x (ix4 n h 0 b'))) :=
  (scoreExpSub_apply x _ n h b).trans (congrArg (fun M => Ideal.exp (x (ix4 n h 0 b) - M))
    ((scoreFloor_apply w _ n h).trans (congrArg (max (Ideal.ofBits .f32 w)) (scoreMax x (constant S_ .f32 w) n h))))

variable (V : Valuation τ sig (Elt Ideal))

/-- The run's exponentials of the logits are those that start at minus infinity. -/
theorem v25_numer : Value.res_main_v25 V = numer 0xFF800000#32 (Value.res_main_v18 V) := rfl

/-- The run's exponentials of the scores are those that start at minus infinity. -/
theorem v78_numer : Value.res_main_v78 V = scoreNumer 0xFF800000#32 (Value.res_main_v71 V) := rfl

end Cert.ReferenceIdeal.Math

end
-- ==== Proof.RefLogits.lean ====
/- The reference's points, its logits and their softmax, read at an index. -/
module

public import proofs.«01_k».proof.Proof.RefMax
public import proofs.«01_k».proof.Proof.Folds
public import proofs.«01_k».proof.Proof.Consts
public import Idealize.ShloMosaic.Lib.Tactic.CleanTypes

@[expose] public section

set_option maxRecDepth 16384

noncomputable section

namespace Cert.ReferenceIdeal.Math

open Idealize.ShloMosaic Idealize.ShloMosaic.TcCoe Cert.ReferenceIdeal Cert.ReferenceIdeal.Gen Cert.ReferenceIdeal.Value Cert.Ball

/-- The greatest of finitely many reals is a real. -/
theorem max_real (l : Fin 128 → ℝ) :
    ∃ μ : ℝ, max ⊥ (Finset.univ.fold max ⊥ fun b => ((l b : ℝ) : EReal)) = (μ : EReal) := by
  obtain ⟨j, hj⟩ := foldMax_mem fun b => ((l b : ℝ) : EReal)
  exact ⟨l j, by rw [hj]; exact max_eq_right bot_le⟩

variable (V : Valuation τ sig (Elt Ideal)) (X P : Fin 8192 → Fin 64 → ℝ)
  (hX : ∀ n d, V (Proc.devRef .tc main_arg0) (ix2 n d) = ((X n d : ℝ) : EReal))
  (hP : ∀ n d, V (Proc.devRef .tc main_arg1) (ix2 n d) = ((P n d : ℝ) : EReal))

include hP in
/-- The positions, ball by ball. -/
theorem v0_eq (b : Fin 128) (i d : Fin 64) : res_main_v0 V (ix3 b i d) = ((P (pt b i) d : ℝ) : EReal) := by
  unfold res_main_v0
  clean_types
  pointwise
  exact (congrArg (fun n => V (Proc.devRef .tc main_arg1) (ix2 n d)) (Fin.ext (by simp [pt]; omega))).trans (hP _ _)

include hX hP in
/-- The embedded points, head by head and ball by ball. -/
theorem v10_eq (h : Fin 4) (b : Fin 128) (i : Fin 64) (e : Fin 16) :
    res_main_v10 V (ix4 h b i e) = ((headOf (embed X P) h (pt b i) e : ℝ) : EReal) := by
  have hc : ∀ q : Fin 64, q.val = h.val * 16 + e.val → q = col h e := fun q hq => Fin.ext (by simp only [col]; omega)
  have hp : ∀ q : Fin 8192, q.val = b.val * 64 + i.val → q = pt b i := fun q hq => Fin.ext (by simp only [pt]; omega)
  unfold res_main_v10
  clean_types
  pointwise
  rw [hc ⟨h.val * 16 + e.val, _⟩ rfl, hp ⟨b.val * 64 + i.val, _⟩ rfl]
  simp only [v0_eq V P hP, Consts.ofBits_64, ← coe_sum, div_coe _ _ (show (64 : ℝ) ≠ 0 by norm_num), ← EReal.coe_sub]
  refine (congrArg (fun z : EReal => z + (_ : EReal)) (hX _ _)).trans ?_
  rw [← EReal.coe_add, headOf, embed, ball_pt]

include hX hP in
/-- The embedded points, head by head. -/
theorem v11_eq (h : Fin 4) (n : Fin 8192) (e : Fin 16) :
    res_main_v11 V (ix3 h n e) = ((headOf (embed X P) h n e : ℝ) : EReal) := by
  have key := v10_eq V X P hX hP h (ball n) (lane n) e
  rw [pt_ball_lane] at key
  unfold res_main_v11
  clean_types
  pointwise
  exact key

include hX hP in
/-- The logits. -/
theorem v18_eq (h : Fin 4) (n : Fin 8192) (b : Fin 128) :
    res_main_v18 V (ix3 h n b) = ((logit (headOf (embed X P) h) n b : ℝ) : EReal) := by
  unfold res_main_v18
  clean_types
  pointwise
  simp only [v11_eq V X P hX hP, v10_eq V X P hX hP, Consts.ofBits_64, Consts.ofBits_eighth, ← coe_sum,
    div_coe _ _ (show (64 : ℝ) ≠ 0 by norm_num), ← EReal.coe_mul]
  rfl

include hX hP in
/-- The softmax of a query's logits: they share the shift and the sum. -/
theorem v29_eq (h : Fin 4) (n : Fin 8192) : ∃ μ : ℝ, ∀ b : Fin 128,
    res_main_v29 V (ix3 h n b) = ((Real.exp (logit (headOf (embed X P) h) n b - μ)
      / ∑ b', Real.exp (logit (headOf (embed X P) h) n b' - μ) : ℝ) : EReal) := by
  obtain ⟨μ, hμ⟩ := max_real fun b => logit (headOf (embed X P) h) n b
  have h25 : ∀ b, res_main_v25 V (ix3 h n b) = ((Real.exp (logit (headOf (embed X P) h) n b - μ) : ℝ) : EReal) := fun b => by
    refine (congrFun (v25_numer V) (ix3 h n b)).trans ((numer_apply _ _ h n b).trans ?_)
    simp only [v18_eq V X P hX hP, Consts.ofBits_bot]
    rw [hμ, ← EReal.coe_sub]
    rfl
  refine ⟨μ, fun b => ?_⟩
  unfold res_main_v29
  clean_types
  pointwise
  simp only [h25, ← coe_sum]
  exact div_coe _ _ (Finset.sum_pos (fun _ _ => Real.exp_pos _) ⟨b, Finset.mem_univ b⟩).ne'

end Cert.ReferenceIdeal.Math

end
-- ==== Proof.TopTwo.lean ====
/- A stable sort by decreasing value starts with the two best places, the smaller place first among equals. -/
module

public import proofs.«01_k».proof.Proof.Spec
public import Idealize.ShloMosaic.Lib.SortFacts

@[expose] public section

noncomputable section

namespace Cert.Ball

open Idealize.ShloMosaic

/-- Greater value first, and the smaller place first among equal values. -/
def Ahead {n : ℕ} (f : Fin n → ℝ) (b c : Fin n) : Prop := f c < f b ∨ (f b = f c ∧ b < c)

section
variable {n : ℕ} (f : Fin n → ℝ) (before : Fin n → Fin n → Bool) (hb : ∀ k k', before k k' = true ↔ f k' < f k)

include hb

/-- Inserting a place smaller than every place of an ordered list leaves an ordered list. -/
theorem ahead_insert (a : Fin n) (l : List (Fin n)) (ha : ∀ c ∈ l, a < c) (hl : l.Pairwise (Ahead f)) :
    (insertBefore before a l).Pairwise (Ahead f) := by
  induction l with
  | nil => exact List.pairwise_singleton _ _
  | cons b l ih =>
    have hl' := List.pairwise_cons.1 hl
    unfold insertBefore
    split
    · rename_i h
      refine List.pairwise_cons.2 ⟨fun c hc => ?_, ih (fun c hc => ha c (List.mem_cons_of_mem _ hc)) hl'.2⟩
      rcases List.mem_cons.1 ((perm_insertBefore before a l).mem_iff.1 hc) with rfl | hc'
      · exact Or.inl ((hb _ _).1 h)
      · exact hl'.1 c hc'
    · rename_i h
      have hle : f b ≤ f a := not_lt.1 fun hlt => h ((hb _ _).2 hlt)
      refine List.pairwise_cons.2 ⟨fun c hc => ?_, hl⟩
      have hca : f c ≤ f a := by
        rcases List.mem_cons.1 hc with rfl | hc'
        · exact hle
        · rcases hl'.1 c hc' with h1 | h1
          · exact (h1.le).trans hle
          · exact (h1.1 ▸ hle)
      rcases hca.lt_or_eq with h1 | h1
      · exact Or.inl h1
      · exact Or.inr ⟨h1.symm, ha c hc⟩

/-- Sorting an increasing list of places leaves an ordered list. -/
theorem ahead_sort (l : List (Fin n)) (hl : l.Pairwise (· < ·)) : (stableSort before l).Pairwise (Ahead f) := by
  induction l with
  | nil => exact List.Pairwise.nil
  | cons a l ih =>
    have hl' := List.pairwise_cons.1 hl
    unfold stableSort
    exact ahead_insert f before hb a _ (fun c hc => hl'.1 c ((perm_stableSort before l).mem_iff.1 hc)) (ih hl'.2)

/-- What the sort puts earlier is ahead of what it puts later. -/
theorem ahead_sorted (i j : Fin n) (hij : i < j) : Ahead f (sortedFrom before i) (sortedFrom before j) := by
  have hp := List.pairwise_iff_get.1 (ahead_sort f before hb (List.finRange n) (List.pairwise_lt_finRange n))
  exact hp _ _ hij

end

/-- The first two places of the sort are the two best. -/
theorem isTop2_sorted (f : Fin 128 → ℝ) (before : Fin 128 → Fin 128 → Bool)
    (hb : ∀ k k', before k k' = true ↔ f k' < f k) : IsTop2 f (sortedFrom before 0) (sortedFrom before 1) := by
  have h0 : ∀ b, b ≠ sortedFrom before 0 → Ahead f (sortedFrom before 0) b := fun b hne => by
    obtain ⟨k, rfl⟩ := sortedFrom_surjective before b
    exact ahead_sorted f before hb 0 k (Fin.pos_of_ne_zero fun hk => hne (by rw [hk]))
  have h1 : ∀ b, b ≠ sortedFrom before 0 → b ≠ sortedFrom before 1 → Ahead f (sortedFrom before 1) b := fun b hne hne' => by
    obtain ⟨k, rfl⟩ := sortedFrom_surjective before b
    refine ahead_sorted f before hb 1 k ?_
    have hk0 : k ≠ 0 := fun hk => hne (by rw [hk])
    have hk1 : k ≠ 1 := fun hk => hne' (by rw [hk])
    have h0' : k.val ≠ 0 := fun h => hk0 (Fin.ext h)
    have h1' : k.val ≠ 1 := fun h => hk1 (Fin.ext h)
    exact Fin.lt_def.2 (by show 1 < k.val; omega)
  refine ⟨fun b => ?_, fun b hlt => ?_, fun h => ?_, fun b hne => ?_, fun b hne hlt => ?_⟩
  · by_cases hne : b = sortedFrom before 0
    · rw [hne]
    · rcases h0 b hne with h | h
      · exact h.le
      · exact h.1.ge
  · rcases h0 b hlt.ne with h | h
    · exact h
    · exact absurd h.2 (not_lt.2 hlt.le)
  · exact absurd (sortedFrom_injective before h) (by decide)
  · by_cases hne' : b = sortedFrom before 1
    · rw [hne']
    · rcases h1 b hne hne' with h | h
      · exact h.le
      · exact h.1.ge
  · rcases h1 b hne hlt.ne with h | h
    · exact h
    · exact absurd h.2 (not_lt.2 hlt.le)

end Cert.Ball

end
-- ==== Proof.RefPick.lean ====
/- The two balls that the reference picks for a query: the first two places of a stable sort of the softmax, hence the two
   best balls. -/
module

public import proofs.«01_k».proof.Proof.RefLogits
public import proofs.«01_k».proof.Proof.TopTwo

@[expose] public section

set_option maxRecDepth 16384

noncomputable section

namespace Cert.ReferenceIdeal.Math

open Idealize.ShloMosaic Idealize.ShloMosaic.TcCoe Cert.ReferenceIdeal Cert.ReferenceIdeal.Gen Cert.ReferenceIdeal.Value Cert.Ball

/-- The bit of a decision is one exactly when it holds. -/
theorem bit_iff (p : Prop) [Decidable p] : (BitVec.ofBool (decide p) == 1#1) = true ↔ p := by
  by_cases h : p <;> simp [h]

/-- The order in which a query's row is sorted. -/
def rowBefore (x : FVec Ideal S4x8192x128 .f32) (h : Fin 4) (n : Fin 8192) (k k' : Fin 128) : Bool :=
  FloatOps.cmpfTotal (F := Ideal) (φ := .f32) .gt (x (ix3 h n k)) (x (ix3 h n k')) == 1#1

/-- Place `k` of the row of an index. -/
def along (j : S4x8192x128.Idx) (k : Fin 128) : S4x8192x128.Idx := Shape.Idx.along j (2 : Fin 3) k

/-- A place of the row, as an index of the table. -/
theorem along_eq (j : S4x8192x128.Idx) (h : Fin 4) (n : Fin 8192) (h0 : (j 0).val = h.val) (h1 : (j 1).val = n.val) (k : Fin 128) :
    along j k = ix3 h n k := by
  funext a
  unfold along Shape.Idx.along
  fin_cases a
  · exact (Function.update_of_ne (by decide) _ _).trans (Fin.ext h0)
  · exact (Function.update_of_ne (by decide) _ _).trans (Fin.ext h1)
  · exact Function.update_self ..

/-- The word that the selection holds at place `k` is the place that the sort puts there. -/
theorem topK_word (x : FVec Ideal S4x8192x128 .f32) (h : Fin 4) (n : Fin 8192) (k : Fin 2) (k' : Fin 128) (hk : k'.val = k.val) :
    (Host.topK S4x8192x2 2 (FloatOps.cmpfTotal .gt) x sliceFits_S4x8192x128_S4x8192x2).2 (ix3 h n k)
      = BitVec.ofNat 32 (sortedFrom (rowBefore x h n) k').val := by
  obtain ⟨Q, hQ⟩ : ∃ Q : S4x8192x128.Idx, Q = fun a => ⟨0 + (ix3 h n k a).val, by
    exact Nat.lt_of_lt_of_le (Nat.add_lt_add_left (ix3 h n k a).isLt _) (sliceFits_S4x8192x128_S4x8192x2.2 a)⟩ := ⟨_, rfl⟩
  have e : (Host.topK S4x8192x2 2 (FloatOps.cmpfTotal .gt) x sliceFits_S4x8192x128_S4x8192x2).2 (ix3 h n k)
      = BitVec.ofNat 32 ((along Q (sortedFrom (fun a b : Fin 128 =>
          FloatOps.cmpfTotal (F := Ideal) (φ := .f32) .gt (x (along Q a)) (x (along Q b)) == 1#1)
          (Q 2))) 2).val := by
    rw [hQ]; rfl
  have h0 : (Q 0).val = h.val := by rw [hQ]; exact Nat.zero_add _
  have h1 : (Q 1).val = n.val := by rw [hQ]; exact Nat.zero_add _
  have h2 : Q 2 = k' := Fin.ext (by rw [hQ, hk]; exact Nat.zero_add _)
  rw [e, along_eq Q h n h0 h1, h2]
  simp only [along_eq Q h n h0 h1]
  rfl

variable (V : Valuation τ sig (Elt Ideal)) (X P : Fin 8192 → Fin 64 → ℝ)
  (hX : ∀ n d, V (Proc.devRef .tc main_arg0) (ix2 n d) = ((X n d : ℝ) : EReal))
  (hP : ∀ n d, V (Proc.devRef .tc main_arg1) (ix2 n d) = ((P n d : ℝ) : EReal))

include hX hP

/-- The reference picks the two best balls of every query. -/
theorem picks (h : Fin 4) (n : Fin 8192) : ∃ i₁ i₂ : Fin 128, IsTop2 (logit (headOf (embed X P) h) n) i₁ i₂
    ∧ res_main_indices V (ix3 h n 0) = BitVec.ofNat 32 i₁.val ∧ res_main_indices V (ix3 h n 1) = BitVec.ofNat 32 i₂.val := by
  obtain ⟨μ, hμ⟩ := v29_eq V X P hX hP h n
  refine ⟨_, _, isTop2_sorted _ (rowBefore (res_main_v29 V) h n) fun k k' => ?_,
    topK_word (res_main_v29 V) h n 0 0 rfl, topK_word (res_main_v29 V) h n 1 1 rfl⟩
  have hS : 0 < ∑ b', Real.exp (logit (headOf (embed X P) h) n b' - μ) :=
    Finset.sum_pos (fun _ _ => Real.exp_pos _) ⟨k, Finset.mem_univ k⟩
  have e : rowBefore (res_main_v29 V) h n k k'
      = (Ideal.cmp .ogt (res_main_v29 V (ix3 h n k)) (res_main_v29 V (ix3 h n k')) == 1#1) := rfl
  rw [e, hμ, hμ]
  refine (bit_iff _).trans ?_
  rw [EReal.coe_lt_coe_iff, div_lt_div_iff_of_pos_right hS, Real.exp_lt_exp, sub_lt_sub_iff_right]

end Cert.ReferenceIdeal.Math

end
-- ==== Proof.RefGather.lean ====
/- The keys that the reference gathers for a query: entry `j` of its table is point `j % 64` of its first ball for `j < 64`
   and of its second ball after that. -/
module

public import proofs.«01_k».proof.Proof.Gen.ReferenceIdeal
public import proofs.«01_k».proof.Proof.Spec
public import Idealize.ShloMosaic.Lib.Pointwise
public import Idealize.ShloMosaic.Lib.Routing.OpsPair

@[expose] public section

set_option maxRecDepth 16384

noncomputable section

namespace Cert.ReferenceIdeal.Math

open Idealize.ShloMosaic Idealize.ShloMosaic.TcCoe Cert.ReferenceIdeal Cert.ReferenceIdeal.Gen

/-- The axes of the gather. -/
abbrev gd := gather_S4x128x64x16_S4x8192x2x2_S4x8192x2x64x16_34_01_n_n_01_3_116416

/-- The gather reads, at a head, a query and a place, the ball that the two words there name. -/
theorem gather_ball (x : FVec Ideal S4x128x64x16 .f32) (idx : IVec S4x8192x2x2 32) (h : Fin 4) (n : Fin 8192) (k : Fin 2)
    (i : Fin 64) (e : Fin 16) (h' : Fin 4) (b : Fin 128) (hh : idx (ix4 h n k 0) = BitVec.ofNat 32 h'.val)
    (hb : idx (ix4 h n k 1) = BitVec.ofNat 32 b.val) : Host.gather gd x idx (ix5 h n k i e) = x (ix4 h' b i e) := by
  unfold Host.gather
  refine congrArg x (funext fun a => Fin.ext ?_)
  have hN : ∀ a' : Fin 4, a' ∉ gd.operandBatchingDims := fun a' => List.not_mem_nil
  have hlt := h'.isLt
  have hlt' := b.isLt
  match a with
  | ⟨0, _⟩ =>
    show gd.start (ix5 h n k i e) idx 0 + gd.batchCoord (ix5 h n k i e) 0 + gd.offCoord (ix5 h n k i e) 0 = h'.val
    rw [gd.batchCoord_eq_zero _ _ (hN 0), gd.offCoord_eq_zero _ _ (by decide)]
    simp only [Nat.add_zero]
    unfold GatherDims.start
    rw [dif_pos (show (0 : Fin 4) ∈ gd.startIndexMap by decide)]
    have hsi : gd.siIdx (ix5 h n k i e) ⟨gd.startIndexMap.idxOf 0, List.idxOf_lt_length_iff.2 (by decide)⟩ = ix4 h n k 0 := by
      funext b'; apply Fin.ext
      fin_cases b' <;> rfl
    rw [hsi, hh, WordCmp.toInt_ofNat_of_lt (by omega)]
    show min ((h'.val : Int)).toNat (4 - 1) = h'.val
    omega
  | ⟨1, _⟩ =>
    show gd.start (ix5 h n k i e) idx 1 + gd.batchCoord (ix5 h n k i e) 1 + gd.offCoord (ix5 h n k i e) 1 = b.val
    rw [gd.batchCoord_eq_zero _ _ (hN 1), gd.offCoord_eq_zero _ _ (by decide)]
    simp only [Nat.add_zero]
    unfold GatherDims.start
    rw [dif_pos (show (1 : Fin 4) ∈ gd.startIndexMap by decide)]
    have hsi : gd.siIdx (ix5 h n k i e) ⟨gd.startIndexMap.idxOf 1, List.idxOf_lt_length_iff.2 (by decide)⟩ = ix4 h n k 1 := by
      funext b'; apply Fin.ext
      fin_cases b' <;> rfl
    rw [hsi, hb, WordCmp.toInt_ofNat_of_lt (by omega)]
    show min ((b.val : Int)).toNat (128 - 1) = b.val
    omega
  | ⟨2, _⟩ =>
    show gd.start (ix5 h n k i e) idx 2 + gd.batchCoord (ix5 h n k i e) 2 + gd.offCoord (ix5 h n k i e) 2 = i.val
    rw [gd.batchCoord_eq_zero _ _ (hN 2)]
    unfold GatherDims.start
    rw [dif_neg (show (2 : Fin 4) ∉ gd.startIndexMap by decide)]
    rw [Nat.add_zero, Nat.zero_add]
    rfl
  | ⟨3, _⟩ =>
    show gd.start (ix5 h n k i e) idx 3 + gd.batchCoord (ix5 h n k i e) 3 + gd.offCoord (ix5 h n k i e) 3 = e.val
    rw [gd.batchCoord_eq_zero _ _ (hN 3)]
    unfold GatherDims.start
    rw [dif_neg (show (3 : Fin 4) ∉ gd.startIndexMap by decide)]
    rw [Nat.add_zero, Nat.zero_add]
    rfl

/-- The table of words: at each head, query and place, the head's word and the picked ball's, a negative one wrapped. -/
def words (hd : IVec S4x1x1 32) (ind : IVec S4x8192x2 32) : IVec S4x8192x2x2 32 :=
  concatenate S4x8192x2x2 3 [⟨S4x8192x2x1, (broadcastInDim S4x8192x2x1 ![0, 1, 2] bcast_S4x8192x2_S4x8192x2x1_0_1_2
      (broadcastInDim S4x8192x2 ![0, 1, 2] bcast_S4x1x1_S4x8192x2_0_1_2
        (select (cmpi .slt hd (broadcastInDim S4x1x1 ![] bcast_S_S4x1x1 (constantI S_ 32 0#32)))
          (addi hd (broadcastInDim S4x1x1 ![] bcast_S_S4x1x1 (constantI S_ 32 4#32))) hd)))⟩,
    ⟨S4x8192x2x1, (broadcastInDim S4x8192x2x1 ![0, 1, 2] bcast_S4x8192x2_S4x8192x2x1_0_1_2
      (select (cmpi .slt ind (broadcastInDim S4x8192x2 ![] bcast_S_S4x8192x2 (constantI S_ 32 0#32)))
        (addi ind (broadcastInDim S4x8192x2 ![] bcast_S_S4x8192x2 (constantI S_ 32 128#32))) ind))⟩]
    concatenates_S4x8192x2x1_S4x8192x2x1_S4x8192x2x2_d3

/-- The head's word. -/
theorem words_head (hd : IVec S4x1x1 32) (ind : IVec S4x8192x2 32) (h : Fin 4) (n : Fin 8192) (k : Fin 2)
    (hh : hd (ix3 h 0 0) = BitVec.ofNat 32 h.val) : words hd ind (ix4 h n k 0) = BitVec.ofNat 32 h.val := by
  unfold words
  pointwise
  rw [hh]
  exact Routing.wrap_of_lt _ _ (by rw [BitVec.toNat_ofNat]; omega)

/-- The ball's word. -/
theorem words_ball (hd : IVec S4x1x1 32) (ind : IVec S4x8192x2 32) (h : Fin 4) (n : Fin 8192) (k : Fin 2) (b : Fin 128)
    (hb : ind (ix3 h n k) = BitVec.ofNat 32 b.val) : words hd ind (ix4 h n k 1) = BitVec.ofNat 32 b.val := by
  unfold words
  pointwise
  rw [hb]
  exact Routing.wrap_of_lt _ _ (by rw [BitVec.toNat_ofNat]; omega)

/-- The gathered keys of every query and head, the two balls one after the other. -/
def gathered (x : FVec Ideal S4x128x64x16 .f32) (idx : IVec S4x8192x2x2 32) : FVec Ideal S8192x4x128x16 .f32 :=
  shapeCast S8192x4x128x16 (transpose S8192x4x2x64x16 [1, 0, 2, 3, 4] (Host.gather gd x idx)
    transposes_S4x8192x2x64x16_S8192x4x2x64x16_1_0_2_3_4) shapeCasts_S8192x4x2x64x16_S8192x4x128x16

/-- One of them, read at an index. -/
theorem gathered_apply (x : FVec Ideal S4x128x64x16 .f32) (idx : IVec S4x8192x2x2 32) (n : Fin 8192) (h : Fin 4) (j : Fin 128)
    (e : Fin 16) : gathered x idx (ix4 n h j e)
      = Host.gather gd x idx (ix5 h n ⟨j.val / 64, by omega⟩ ⟨j.val % 64, Nat.mod_lt _ (by omega)⟩ e) := by
  unfold gathered
  pointwise

end Cert.ReferenceIdeal.Math

end
-- ==== Proof.Picked.lean ====
/- The keys of two balls, listed one ball after the other. -/
module

public import proofs.«01_k».proof.Proof.Spec

@[expose] public section

noncomputable section

namespace Cert.Ball

/-- Entry `j` of the list: a point of the first ball for `j < 64`, of the second one after that. -/
def listed (i₁ i₂ : Fin 128) (j : Fin 128) : Fin 8192 := pt (if j.val < 64 then i₁ else i₂) ⟨j.val % 64, Nat.mod_lt _ (by omega)⟩

/-- A sum over the list is a sum over the keys of the two balls. -/
theorem sum_listed {M : Type*} [AddCommMonoid M] (i₁ i₂ : Fin 128) (hne : i₂ ≠ i₁) (f : Fin 8192 → M) :
    ∑ j : Fin 128, f (listed i₁ i₂ j) = ∑ k ∈ keys i₁ i₂, f k := by
  refine Finset.sum_nbij' (listed i₁ i₂)
    (fun k => if ball k = i₁ then ⟨(lane k).val, by omega⟩ else ⟨64 + (lane k).val, by omega⟩) ?_ ?_ ?_ ?_ ?_
  · intro j _
    rw [mem_keys, listed, ball_pt]
    by_cases h : j.val < 64 <;> simp [h]
  · intro k _
    exact Finset.mem_univ _
  · intro j _
    by_cases h : j.val < 64
    · simp only [listed, ball_pt, lane_pt, if_pos h, if_true]
      apply Fin.ext
      show j.val % 64 = j.val
      omega
    · simp only [listed, ball_pt, lane_pt, if_neg h, if_neg hne]
      apply Fin.ext
      show 64 + j.val % 64 = j.val
      have := j.isLt
      omega
  · intro k hk
    have hl := (lane k).isLt
    by_cases h : ball k = i₁
    · rw [if_pos h, listed]
      have e : (⟨(lane k).val % 64, Nat.mod_lt _ (by omega)⟩ : Fin 64) = lane k := Fin.ext (Nat.mod_eq_of_lt hl)
      simp only [hl, if_true, e, ← h]
      exact pt_ball_lane k
    · have h2 : ball k = i₂ := (mem_keys.1 hk).resolve_left h
      rw [if_neg h, listed]
      have e : (⟨(64 + (lane k).val) % 64, Nat.mod_lt _ (by omega)⟩ : Fin 64) = lane k := Fin.ext (by
        show (64 + (lane k).val) % 64 = (lane k).val
        omega)
      have hn : ¬ 64 + (lane k).val < 64 := by omega
      simp only [hn, if_false, e, ← h2]
      exact pt_ball_lane k
  · intro j _
    rfl

end Cert.Ball

end
-- ==== Proof.RefAttend.lean ====
/- What the reference's result holds: at every query and every head, the answer. -/
module

public import proofs.«01_k».proof.Proof.RefPick
public import proofs.«01_k».proof.Proof.RefGather
public import proofs.«01_k».proof.Proof.Picked

@[expose] public section

set_option maxRecDepth 16384

noncomputable section

namespace Cert.ReferenceIdeal.Math

open Idealize.ShloMosaic Idealize.ShloMosaic.TcCoe Cert.ReferenceIdeal Cert.ReferenceIdeal.Gen Cert.ReferenceIdeal.Value Cert.Ball

/-- The scores of queries `q` against keys `kv`. -/
def scores (q : FVec Ideal S4x8192x16 .f32) (kv : FVec Ideal S8192x4x128x16 .f32) : FVec Ideal S8192x4x1x128 .f32 :=
  Host.divf (Host.dotGeneral dot_S8192x4x1x16_S8192x4x128x16_S8192x4x1x128_3_3_2_2_01_01 none
      (broadcastInDim S8192x4x1x16 ![0, 1, 3] bcast_S8192x4x16_S8192x4x1x16_0_1_3
        (transpose S8192x4x16 [1, 0, 2] q transposes_S4x8192x16_S8192x4x16_1_0_2)) kv)
    (broadcastInDim S8192x4x1x128 ![] bcast_S_S8192x4x1x128 (Host.sqrt (constant S_ .f32 0x41800000#32)))

/-- One score, read at an index. -/
theorem scores_apply (q : FVec Ideal S4x8192x16 .f32) (kv : FVec Ideal S8192x4x128x16 .f32) (n : Fin 8192) (h : Fin 4) (j : Fin 128) :
    scores q kv (ix4 n h 0 j)
      = Ideal.div (∑ e : Fin 16, q (ix3 h n e) * kv (ix4 n h j e)) (Ideal.sqrt (Ideal.ofBits .f32 0x41800000#32)) := by
  unfold scores
  pointwise

/-- The keys `kv` averaged by the weights `w`. -/
def average (w : FVec Ideal S8192x4x1x128 .f32) (kv : FVec Ideal S8192x4x128x16 .f32) : FVec Ideal S8192x4x16 .f32 :=
  shapeCast S8192x4x16 (Host.dotGeneral dot_S8192x4x1x128_S8192x4x128x16_S8192x4x1x16_3_2_2_3_01_01 none
    (Host.divf w (broadcastInDim S8192x4x1x128 ![0, 1, 2, 3] bcast_S8192x4x1x1_S8192x4x1x128_0_1_2_3
      (broadcastInDim S8192x4x1x1 ![0, 1, 2] bcast_S8192x4x1_S8192x4x1x1_0_1_2
        (Host.reduceAdd w (constant S_ .f32 0x00000000#32) reducesTo_S8192x4x1x128_S8192x4x1_d3 h_S_)))) kv)
    shapeCasts_S8192x4x1x16_S8192x4x16

/-- The average, read at an index. -/
theorem average_apply (w : FVec Ideal S8192x4x1x128 .f32) (kv : FVec Ideal S8192x4x128x16 .f32) (n : Fin 8192) (h : Fin 4)
    (e : Fin 16) : average w kv (ix3 n h e)
      = ∑ j : Fin 128, Ideal.div (w (ix4 n h 0 j)) (∑ j' : Fin 128, w (ix4 n h 0 j')) * kv (ix4 n h j e) := by
  unfold average
  pointwise

/-- The square root of the number of columns of a head. -/
theorem sqrt_16 : Ideal.sqrt (Ideal.ofBits .f32 0x41800000#32) = ((4 : ℝ) : EReal) := by
  rw [Consts.ofBits_16]
  show (if (16 : ℝ) < 0 then (⊥ : EReal) else ((Real.sqrt 16 : ℝ) : EReal)) = _
  rw [if_neg (by norm_num), show (16 : ℝ) = 4 ^ 2 by norm_num, Real.sqrt_sq (by norm_num)]

variable (V : Valuation τ sig (Elt Ideal)) (X P : Fin 8192 → Fin 64 → ℝ)
  (hX : ∀ n d, V (Proc.devRef .tc main_arg0) (ix2 n d) = ((X n d : ℝ) : EReal))
  (hP : ∀ n d, V (Proc.devRef .tc main_arg1) (ix2 n d) = ((P n d : ℝ) : EReal))

/-- The keys that the run gathers. -/
def kv : FVec Ideal S8192x4x128x16 .f32 :=
  gathered (res_main_v10 V) (words (res_main_v31 V) (res_main_indices V))

/-- The run's scores are those of its queries against its gathered keys. -/
theorem v71_scores : res_main_v71 V = scores (res_main_v11 V) (kv V) := rfl

/-- The head's own word. -/
theorem v31_eq (h : Fin 4) : (res_main_v31 V : IVec S4x1x1 32) (ix3 h 0 0) = BitVec.ofNat 32 h.val := rfl

include hX hP

/-- The gathered keys are those of the two best balls, one ball after the other. -/
theorem kv_eq (h : Fin 4) (n : Fin 8192) (i₁ i₂ : Fin 128) (h1 : res_main_indices V (ix3 h n 0) = BitVec.ofNat 32 i₁.val)
    (h2 : res_main_indices V (ix3 h n 1) = BitVec.ofNat 32 i₂.val) (j : Fin 128) (e : Fin 16) :
    kv V (ix4 n h j e) = ((headOf (embed X P) h (listed i₁ i₂ j) e : ℝ) : EReal) := by
  have hk : ∃ k : Fin 2, (⟨j.val / 64, by omega⟩ : Fin 2) = k
      ∧ res_main_indices V (ix3 h n k) = BitVec.ofNat 32 (if j.val < 64 then i₁ else i₂).val := by
    by_cases hj : j.val < 64
    · exact ⟨0, Fin.ext (by show j.val / 64 = 0; omega), by rw [if_pos hj]; exact h1⟩
    · exact ⟨1, Fin.ext (by show j.val / 64 = 1; omega), by rw [if_neg hj]; exact h2⟩
  obtain ⟨k, hk, hw⟩ := hk
  refine (gathered_apply _ _ n h j e).trans ?_
  rw [hk]
  refine (gather_ball _ _ h n k _ e h _ (words_head _ _ h n k (v31_eq V h)) (words_ball _ _ h n k _ hw)).trans ?_
  exact v10_eq V X P hX hP h _ _ e

/-- The result: at query `n` and head `h`, the answer for that head's points. -/
theorem average_eq : average (res_main_v78 V) (kv V)
    = fun y : S8192x4x16.Idx => best (headOf (embed X P) (y 1)) (y 0) (y 2) := by
  funext y
  obtain ⟨n, h, e, rfl⟩ : ∃ (n : Fin 8192) (h : Fin 4) (e : Fin 16), y = ix3 n h e := ⟨y 0, y 1, y 2, eq_ix3 y⟩
  obtain ⟨i₁, i₂, htop, h1, h2⟩ := picks V X P hX hP h n
  have hkv := kv_eq V X P hX hP h n i₁ i₂ h1 h2
  have h71 : ∀ j, res_main_v71 V (ix4 n h 0 j) = ((score (headOf (embed X P) h) n (listed i₁ i₂ j) : ℝ) : EReal) := fun j => by
    refine (congrFun (v71_scores V) (ix4 n h 0 j)).trans ((scores_apply _ _ n h j).trans ?_)
    simp only [v11_eq V X P hX hP, hkv, sqrt_16, ← EReal.coe_mul, ← coe_sum, div_coe _ _ (show (4 : ℝ) ≠ 0 by norm_num)]
    rw [score, div_eq_mul_one_div]
  obtain ⟨μ, hμ⟩ := max_real fun j => score (headOf (embed X P) h) n (listed i₁ i₂ j)
  have h78 : ∀ j, res_main_v78 V (ix4 n h 0 j)
      = ((Real.exp (score (headOf (embed X P) h) n (listed i₁ i₂ j) - μ) : ℝ) : EReal) := fun j => by
    refine (congrFun (v78_numer V) (ix4 n h 0 j)).trans ((scoreNumer_apply _ _ n h j).trans ?_)
    simp only [h71, Consts.ofBits_bot]
    rw [hμ, ← EReal.coe_sub]
    rfl
  refine Answer.eq_best (A := headOf (embed X P) h) (o := fun e => average (res_main_v78 V) (kv V) (ix3 n h e)) ⟨i₁, i₂, htop, fun e => ?_⟩ e
  refine (average_apply _ _ n h e).trans ?_
  have hw := weights_pos (headOf (embed X P) h) n i₁ i₂ μ
  rw [← sum_listed i₁ i₂ htop.ne] at hw
  simp only [h78, hkv, ← coe_sum, div_coe _ _ hw.ne', ← EReal.coe_mul]
  refine congrArg ((↑) : ℝ → EReal) ?_
  rw [← attend_shift (headOf (embed X P) h) n i₁ i₂ e μ, ← sum_listed i₁ i₂ htop.ne, ← sum_listed i₁ i₂ htop.ne, Finset.sum_div]
  exact Finset.sum_congr rfl fun j _ => (div_mul_eq_mul_div _ _ _)

end Cert.ReferenceIdeal.Math

end
-- ==== Proof.Finite.lean ====
/- The precondition says that every entry of both arguments is a real number. -/
module

public import proofs.«01_k».proof.Pre_finite
public import proofs.«01_k».proof.Proof.Consts
public import Idealize.ShloMosaic.Lib.ReduceAll
public import Idealize.ShloMosaic.Lib.Pointwise

@[expose] public section

noncomputable section

namespace Cert.Pre_finite

open Idealize.ShloMosaic

/-- The shape relations of the precondition hold. -/
theorem facts : Facts where
  bcast_S_S8192x64 := by decide
  reducesTo_S8192x64_S_d0_1 := by decide
  h_S_ := by decide

/-- An extended real whose absolute value is below plus infinity is a real. -/
theorem real_of_abs_lt (z : EReal) (h : max z (-z) < ⊤) : z = ((z.toReal : ℝ) : EReal) := by
  refine (EReal.coe_toReal (fun e => ?_) fun e => ?_).symm
  · rw [e] at h; exact absurd h (by simp)
  · rw [e] at h; exact absurd h (by simp)

/-- The bit of a decision that is one says that it holds. -/
theorem of_bit (p : Prop) [Decidable p] (h : BitVec.ofBool (decide p) = 1#1) : p := by
  by_contra hn
  simp [hn] at h

section
variable [Facts]
open Facts

/-- An array all of whose entries have an absolute value below plus infinity is an array of reals. -/
theorem reals (x : FVec Ideal S8192x64 .f32)
    (h : Host.reduce IntOp.andi (cmpf .olt (Host.absf x) (broadcastInDim S8192x64 ![] bcast_S_S8192x64 (constant S_ .f32 0x7F800000#32)))
      (constantI S_ 1 1#1) reducesTo_S8192x64_S_d0_1 h_S_ = fun _ => 1#1) :
    ∃ X : Fin 8192 → Fin 64 → ℝ, ∀ y : S8192x64.Idx, x y = ((X (y 0) (y 1) : ℝ) : EReal) := by
  haveI : Subsingleton S_.Idx := ⟨fun a b => funext fun i => i.elim0⟩
  refine ⟨fun n d => (x (ix2 n d) : EReal).toReal, fun y => ?_⟩
  have hy : y = ix2 (y 0) (y 1) := eq_ix2 y
  have hb := Host.reduce_andi_all _ _ _ _ ix0 (congrFun h ix0) y
  have hc : BitVec.ofBool (decide (max (x y : EReal) (-(x y : EReal)) < Ideal.ofBits .f32 0x7F800000#32)) = 1#1 := hb
  have hlt := of_bit _ hc
  rw [Consts.ofBits_top] at hlt
  exact (real_of_abs_lt _ hlt).trans (congrArg (fun y => ((EReal.toReal (x y) : ℝ) : EReal)) hy)

/-- Both arguments are arrays of reals. -/
theorem both (x p : FVec Ideal S8192x64 .f32) (h : fn (F := Ideal) x p = fun _ => 1#1) :
    (∃ X : Fin 8192 → Fin 64 → ℝ, ∀ y : S8192x64.Idx, x y = ((X (y 0) (y 1) : ℝ) : EReal))
      ∧ ∃ P : Fin 8192 → Fin 64 → ℝ, ∀ y : S8192x64.Idx, p y = ((P (y 0) (y 1) : ℝ) : EReal) := by
  have key : ∀ a b : BitVec 1, a &&& b = 1#1 → a = 1#1 ∧ b = 1#1 := by decide
  have h' := fun j => key _ _ (congrFun h j)
  exact ⟨reals x (funext fun j => (h' j).1), reals p (funext fun j => (h' j).2)⟩

end

end Cert.Pre_finite

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.KernelValue
public import proofs.«01_k».proof.Proof.RefAttend
public import proofs.«01_k».proof.Proof.Finite
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference runs to its end on every device, its arguments unchanged, every counter at zero. -/
theorem frame_ri : Cert.quiescent_ReferenceIdeal := fun m ρ _ =>
  (θ_run Cert.ReferenceIdeal.defs _ _).mono (fun r h => ⟨fun c => (h c).2,
      sem_eq_zero_of_no_sems (by decide) r.2⟩)
    (Cert.ReferenceIdeal.Value.run (F := Ideal) m ρ)

/-- The mask's pattern is named, and the name stands for minus infinity. -/
theorem preserves : Cert.preserves_Kernel_KernelIdeal :=
  IdealRules.named_const.statement Cert.KernelIdeal.κ "mask" .f32 0xF149F2CA#32 ⊥ rfl

/-- On finite arguments the two programs end with the same result. -/
theorem values : Cert.algebraic_KernelIdeal_ReferenceIdeal_pre_finite (hPre_finite := Cert.Pre_finite.facts) := by
  intro m g m' g' hpre hargs
  haveI := Cert.Pre_finite.facts
  have hreal := fun c => Cert.Pre_finite.both _ _ (hpre c)
  choose hx hp using hreal
  choose X hX using hx
  choose P hP using hp
  refine ⟨fun c => fun y : Cert.KernelIdeal.S8192x4x16.Idx =>
    Cert.Ball.best (Cert.Ball.headOf (Cert.Ball.embed (X c) (P c)) (y 1)) (y 0) (y 2), ?_, ?_⟩
  · refine (θ_run Cert.KernelIdeal.defs _ _).mono (fun r h c => ⟨(h c).1.trans ?_, (h c).2⟩)
      (Cert.KernelIdeal.Whole.run_result (F := Ideal) m g)
    exact Cert.KernelIdeal.Whole.result_eq m g c (X c) (P c) (fun n d => hX c _) (fun n d => hP c _)
  · refine (θ_run Cert.ReferenceIdeal.defs _ _).mono (fun r h c => ⟨(h c).1.trans ?_, (h c).2⟩)
      (Cert.ReferenceIdeal.Value.run (F := Ideal) m' g')
    exact Cert.ReferenceIdeal.Math.average_eq (StableHlo.launchContents m' c) (X c) (P c)
      (fun n d => (congrFun (hargs c).1 _).trans (hX c _)) (fun n d => (congrFun (hargs c).2 _).trans (hP c _))

/-- Every claim. -/
theorem claim : Cert.Claim :=
  ⟨Cert.Kernel.Gen.facts, Cert.KernelIdeal.Gen.facts, Cert.ReferenceIdeal.Gen.facts, Cert.Pre_finite.facts,
    fun m ρ _ => Cert.Kernel.Gen.frame m ρ, fun m ρ _ => Cert.KernelIdeal.Gen.frame m ρ,
    fun m ρ _ => Cert.KernelIdeal.Gen.frame m ρ, frame_ri, fun m ρ _ => frame_ri m ρ trivial, preserves, values⟩

end Cert.Proof

end
